-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "c2" .f32 0x3E0293EE#32 (((Real.log 2)⁻¹ * (Real.sqrt 128)⁻¹ : ℝ) : EReal)
  ∧ IdealRules.named_const.Statement Cert.KernelIdeal.κ "mask" .f32 0xF149F2CA#32 ⊥

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v524) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
-- ==== Pre_finite_queries_and_keys.lean ====
abbrev S4x4x585x128 : Shape := ⟨4, ![4, 4, 585, 128]⟩
abbrev S_ : Shape := ⟨0, ![]⟩

class Facts : Prop where
  bcast_S_S4x4x585x128 : S_.BroadcastsInDim S4x4x585x128 (![] : Fin 0 → Fin S4x4x585x128.rank)

variable [Facts]

def fn {F : FTy → Type} [FloatOps F] (main_arg0 : FVec F S4x4x585x128 .f32) (main_arg1 : FVec F S4x4x585x128 .f32) (main_arg2 : FVec F S4x4x585x128 .f32) : IVec S4x4x585x128 1 :=
  let main_v0 : FVec F S4x4x585x128 .f32 := Host.absf main_arg0
  let main_cst : FVec F S_ .f32 := constant S_ .f32 0x7F800000#32
  let main_v1 : FVec F S4x4x585x128 .f32 := broadcastInDim S4x4x585x128 ![] bcast_S_S4x4x585x128 main_cst
  let main_v2 : IVec S4x4x585x128 1 := cmpf .olt main_v0 main_v1
  let main_v3 : FVec F S4x4x585x128 .f32 := Host.absf main_arg1
  let main_cst_0 : FVec F S_ .f32 := constant S_ .f32 0x7F800000#32
  let main_v4 : FVec F S4x4x585x128 .f32 := broadcastInDim S4x4x585x128 ![] bcast_S_S4x4x585x128 main_cst_0
  let main_v5 : IVec S4x4x585x128 1 := cmpf .olt main_v3 main_v4
  let main_v6 : IVec S4x4x585x128 1 := andi main_v2 main_v5
  main_v6
-- ==== Kernel.lean ====
abbrev S4x4x585x128 : Shape := ⟨4, ![4, 4, 585, 128]⟩
abbrev S16x585x128 : Shape := ⟨3, ![16, 585, 128]⟩
abbrev S4x585x128 : Shape := ⟨3, ![4, 585, 128]⟩
abbrev S512x64 : Shape := ⟨2, ![512, 64]⟩
abbrev S512x1 : Shape := ⟨2, ![512, 1]⟩
abbrev S64x8 : Shape := ⟨2, ![64, 8]⟩
abbrev S64x1 : Shape := ⟨2, ![64, 1]⟩
abbrev S64x8x8 : Shape := ⟨3, ![64, 8, 8]⟩
abbrev S64x8x1 : Shape := ⟨3, ![64, 8, 1]⟩
abbrev S1x585x128 : Shape := ⟨3, ![1, 585, 128]⟩
abbrev S585x128 : Shape := ⟨2, ![585, 128]⟩
abbrev S512x128 : Shape := ⟨2, ![512, 128]⟩
abbrev S64x8x128 : Shape := ⟨3, ![64, 8, 128]⟩
abbrev S64x1x128 : Shape := ⟨3, ![64, 1, 128]⟩
abbrev S64x128 : Shape := ⟨2, ![64, 128]⟩
abbrev S8x8x128 : Shape := ⟨3, ![8, 8, 128]⟩
abbrev S8x1x128 : Shape := ⟨3, ![8, 1, 128]⟩
abbrev S8x128 : Shape := ⟨2, ![8, 128]⟩
abbrev S1x128 : Shape := ⟨2, ![1, 128]⟩
abbrev S512 : Shape := ⟨1, ![512]⟩
abbrev S1x1x128 : Shape := ⟨3, ![1, 1, 128]⟩
abbrev S1x512x128 : Shape := ⟨3, ![1, 512, 128]⟩
abbrev S64 : Shape := ⟨1, ![64]⟩
abbrev S8x8x8 : Shape := ⟨3, ![8, 8, 8]⟩
abbrev S8x8x1 : Shape := ⟨3, ![8, 8, 1]⟩
abbrev S8x8 : Shape := ⟨2, ![8, 8]⟩
abbrev S8 : Shape := ⟨1, ![8]⟩
abbrev S8x1 : Shape := ⟨2, ![8, 1]⟩
abbrev S1x8x8 : Shape := ⟨3, ![1, 8, 8]⟩
abbrev S1x8x1 : Shape := ⟨3, ![1, 8, 1]⟩
abbrev S1 : Shape := ⟨1, ![1]⟩
abbrev S1x1 : Shape := ⟨2, ![1, 1]⟩
abbrev S73x128 : Shape := ⟨2, ![73, 128]⟩
abbrev S1x73x128 : Shape := ⟨3, ![1, 73, 128]⟩

abbrev nBuf : Space → Nat
  | .hbm => 8
  | .vmem => 8
  | .smem => 0
  | _ => 0

abbrev bufTy : (tb : Table) → Fin (tcTables nBuf tb) → BufTy
  | .hbm, ⟨0, _⟩ => ⟨S4x4x585x128, .f32⟩
  | .hbm, ⟨1, _⟩ => ⟨S4x4x585x128, .f32⟩
  | .hbm, ⟨2, _⟩ => ⟨S4x4x585x128, .f32⟩
  | .hbm, ⟨3, _⟩ => ⟨S16x585x128, .f32⟩
  | .hbm, ⟨4, _⟩ => ⟨S16x585x128, .f32⟩
  | .hbm, ⟨5, _⟩ => ⟨S16x585x128, .f32⟩
  | .hbm, ⟨6, _⟩ => ⟨S16x585x128, .f32⟩
  | .hbm, ⟨7, _⟩ => ⟨S4x4x585x128, .f32⟩
  | .local _ .vmem, ⟨0, _⟩ => ⟨S4x585x128, .f32⟩
  | .local _ .vmem, ⟨1, _⟩ => ⟨S4x585x128, .f32⟩
  | .local _ .vmem, ⟨2, _⟩ => ⟨S4x585x128, .f32⟩
  | .local _ .vmem, ⟨3, _⟩ => ⟨S4x585x128, .f32⟩
  | .local _ .vmem, ⟨4, _⟩ => ⟨S4x585x128, .f32⟩
  | .local _ .vmem, ⟨5, _⟩ => ⟨S4x585x128, .f32⟩
  | .local _ .vmem, ⟨6, _⟩ => ⟨S4x585x128, .f32⟩
  | .local _ .vmem, ⟨7, _⟩ => ⟨S4x585x128, .f32⟩
  | _, _ => ⟨S4x4x585x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x585x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x585x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x585x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x585x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "c2" => some (((Real.log 2)⁻¹ * (Real.sqrt 128)⁻¹ : ℝ) : EReal)
  | "mask" => some ⊥
  | _ => none
-- ==== ReferenceIdeal.lean ====
abbrev S4x4x585x128 : Shape := ⟨4, ![4, 4, 585, 128]⟩
abbrev S512 : Shape := ⟨1, ![512]⟩
abbrev S512x1 : Shape := ⟨2, ![512, 1]⟩
abbrev S64 : Shape := ⟨1, ![64]⟩
abbrev S1x64 : Shape := ⟨2, ![1, 64]⟩
abbrev S_ : Shape := ⟨0, ![]⟩
abbrev S512x64 : Shape := ⟨2, ![512, 64]⟩
abbrev S8 : Shape := ⟨1, ![8]⟩
abbrev S1x8 : Shape := ⟨2, ![1, 8]⟩
abbrev S512x8 : Shape := ⟨2, ![512, 8]⟩
abbrev S4x4x512x128 : Shape := ⟨4, ![4, 4, 512, 128]⟩
abbrev S512x64x1 : Shape := ⟨3, ![512, 64, 1]⟩
abbrev S4x4x512x64x128 : Shape := ⟨5, ![4, 4, 512, 64, 128]⟩
abbrev S4x4x512x64 : Shape := ⟨4, ![4, 4, 512, 64]⟩
abbrev S4x4x512 : Shape := ⟨3, ![4, 4, 512]⟩
abbrev S4x4x512x1 : Shape := ⟨4, ![4, 4, 512, 1]⟩
abbrev S512x8x1 : Shape := ⟨3, ![512, 8, 1]⟩
abbrev S4x4x512x8x128 : Shape := ⟨5, ![4, 4, 512, 8, 128]⟩
abbrev S4x4x512x8 : Shape := ⟨4, ![4, 4, 512, 8]⟩
abbrev S1 : Shape := ⟨1, ![1]⟩
abbrev S64x1 : Shape := ⟨2, ![64, 1]⟩
abbrev S64x8 : Shape := ⟨2, ![64, 8]⟩
abbrev S4x4x64x128 : Shape := ⟨4, ![4, 4, 64, 128]⟩
abbrev S64x8x1 : Shape := ⟨3, ![64, 8, 1]⟩
abbrev S4x4x64x8x128 : Shape := ⟨5, ![4, 4, 64, 8, 128]⟩
abbrev S4x4x64x8 : Shape := ⟨4, ![4, 4, 64, 8]⟩
abbrev S4x4x64 : Shape := ⟨3, ![4, 4, 64]⟩
abbrev S4x4x64x1 : Shape := ⟨4, ![4, 4, 64, 1]⟩
abbrev S8x1 : Shape := ⟨2, ![8, 1]⟩
abbrev S1x1 : Shape := ⟨2, ![1, 1]⟩
abbrev S8x8 : Shape := ⟨2, ![8, 8]⟩
abbrev S4x4x8x128 : Shape := ⟨4, ![4, 4, 8, 128]⟩
abbrev S8x1x1 : Shape := ⟨3, ![8, 1, 1]⟩
abbrev S4x4x8x1x128 : Shape := ⟨5, ![4, 4, 8, 1, 128]⟩
abbrev S4x4x8x1 : Shape := ⟨4, ![4, 4, 8, 1]⟩
abbrev S4x4x8 : Shape := ⟨3, ![4, 4, 8]⟩
abbrev S8x8x1 : Shape := ⟨3, ![8, 8, 1]⟩
abbrev S4x4x8x8x128 : Shape := ⟨5, ![4, 4, 8, 8, 128]⟩
abbrev S4x4x8x8 : Shape := ⟨4, ![4, 4, 8, 8]⟩
abbrev S4x4x1x128 : Shape := ⟨4, ![4, 4, 1, 128]⟩
abbrev S1x8x1 : Shape := ⟨3, ![1, 8, 1]⟩
abbrev S4x4x1x8x128 : Shape := ⟨5, ![4, 4, 1, 8, 128]⟩
abbrev S4x4x1x8 : Shape := ⟨4, ![4, 4, 1, 8]⟩
abbrev S4x4x1 : Shape := ⟨3, ![4, 4, 1]⟩
abbrev S4x4x1x1 : Shape := ⟨4, ![4, 4, 1, 1]⟩

abbrev nBuf : Space → Nat
  | .hbm => 766
  | .vmem => 0
  | .smem => 0
  | _ => 0

abbrev hbmTy0_0 (i : Nat) : BufTy := match i % 128 with
  | 0 => ⟨S4x4x585x128, .f32⟩
  | 1 => ⟨S4x4x585x128, .f32⟩
  | 2 => ⟨S4x4x585x128, .f32⟩
  | 3 => ⟨S512, .i32⟩
  | 4 => ⟨S512x1, .i32⟩
  | 5 => ⟨S64, .i32⟩
  | 6 => ⟨S1x64, .i32⟩
  | 7 => ⟨S_, .i32⟩
  | 8 => ⟨S1x64, .i32⟩
  | 9 => ⟨S1x64, .i32⟩
  | 10 => ⟨S1x64, .f32⟩
  | 11 => ⟨S_, .f32⟩
  | 12 => ⟨S1x64, .f32⟩
  | 13 => ⟨S1x64, .f32⟩
  | 14 => ⟨S512x1, .f32⟩
  | 15 => ⟨S_, .f32⟩
  | 16 => ⟨S512x1, .f32⟩
  | 17 => ⟨S512x1, .f32⟩
  | 18 => ⟨S512x64, .f32⟩
  | 19 => ⟨S512x64, .f32⟩
  | 20 => ⟨S512x64, .i1⟩
  | 21 => ⟨S_, .i32⟩
  | 22 => ⟨S1x64, .i32⟩
  | 23 => ⟨S1x64, .i32⟩
  | 24 => ⟨S_, .i32⟩
  | 25 => ⟨S_, .i32⟩
  | 26 => ⟨S512x64, .i32⟩
  | 27 => ⟨S512x64, .i32⟩
  | 28 => ⟨S512x64, .i32⟩
  | 29 => ⟨S8, .i32⟩
  | 30 => ⟨S1x8, .i32⟩
  | 31 => ⟨S_, .i32⟩
  | 32 => ⟨S_, .i32⟩
  | 33 => ⟨S512x1, .i32⟩
  | 34 => ⟨S512x1, .i32⟩
  | 35 => ⟨S512x1, .i32⟩
  | 36 => ⟨S_, .i32⟩
  | 37 => ⟨S512x1, .i32⟩
  | 38 => ⟨S512x1, .i1⟩
  | 39 => ⟨S512x1, .i32⟩
  | 40 => ⟨S512x1, .i32⟩
  | 41 => ⟨S_, .i32⟩
  | 42 => ⟨S512x1, .i32⟩
  | 43 => ⟨S512x1, .i1⟩
  | 44 => ⟨S512x1, .i1⟩
  | 45 => ⟨S_, .i32⟩
  | 46 => ⟨S512x1, .i32⟩
  | 47 => ⟨S512x1, .i32⟩
  | 48 => ⟨S512x1, .i32⟩
  | 49 => ⟨S_, .i32⟩
  | 50 => ⟨S512x1, .i32⟩
  | 51 => ⟨S512x1, .i32⟩
  | 52 => ⟨S512x8, .i32⟩
  | 53 => ⟨S512x8, .i32⟩
  | 54 => ⟨S512x8, .i32⟩
  | 55 => ⟨S_, .i32⟩
  | 56 => ⟨S512x8, .i32⟩
  | 57 => ⟨S512x8, .i32⟩
  | 58 => ⟨S512x8, .f32⟩
  | 59 => ⟨S_, .f32⟩
  | 60 => ⟨S512x8, .f32⟩
  | 61 => ⟨S512x8, .f32⟩
  | 62 => ⟨S512x1, .f32⟩
  | 63 => ⟨S_, .f32⟩
  | 64 => ⟨S512x1, .f32⟩
  | 65 => ⟨S512x1, .f32⟩
  | 66 => ⟨S512x8, .f32⟩
  | 67 => ⟨S512x8, .i1⟩
  | 68 => ⟨S_, .i32⟩
  | 69 => ⟨S512x8, .i32⟩
  | 70 => ⟨S512x8, .i32⟩
  | 71 => ⟨S_, .i32⟩
  | 72 => ⟨S_, .i32⟩
  | 73 => ⟨S512x8, .i32⟩
  | 74 => ⟨S512x8, .i32⟩
  | 75 => ⟨S4x4x512x128, .f32⟩
  | 76 => ⟨S_, .i32⟩
  | 77 => ⟨S512x64, .i32⟩
  | 78 => ⟨S512x64, .i1⟩
  | 79 => ⟨S_, .i32⟩
  | 80 => ⟨S512x64, .i32⟩
  | 81 => ⟨S512x64, .i32⟩
  | 82 => ⟨S512x64, .i32⟩
  | 83 => ⟨S512x64x1, .i32⟩
  | 84 => ⟨S4x4x512x64x128, .f32⟩
  | 85 => ⟨S_, .i32⟩
  | 86 => ⟨S512x64, .i32⟩
  | 87 => ⟨S512x64, .i1⟩
  | 88 => ⟨S_, .i32⟩
  | 89 => ⟨S512x64, .i32⟩
  | 90 => ⟨S512x64, .i32⟩
  | 91 => ⟨S512x64, .i32⟩
  | 92 => ⟨S512x64x1, .i32⟩
  | 93 => ⟨S4x4x512x64x128, .f32⟩
  | 94 => ⟨S4x4x512x64, .f32⟩
  | 95 => ⟨S_, .f32⟩
  | 96 => ⟨S_, .f32⟩
  | 97 => ⟨S4x4x512x64, .f32⟩
  | 98 => ⟨S4x4x512x64, .f32⟩
  | 99 => ⟨S_, .f32⟩
  | 100 => ⟨S4x4x512, .f32⟩
  | 101 => ⟨S_, .f32⟩
  | 102 => ⟨S4x4x512, .f32⟩
  | 103 => ⟨S4x4x512, .f32⟩
  | 104 => ⟨S4x4x512x1, .f32⟩
  | 105 => ⟨S4x4x512x64, .f32⟩
  | 106 => ⟨S4x4x512x64, .f32⟩
  | 107 => ⟨S4x4x512x64, .f32⟩
  | 108 => ⟨S_, .f32⟩
  | 109 => ⟨S4x4x512, .f32⟩
  | 110 => ⟨S4x4x512x1, .f32⟩
  | 111 => ⟨S4x4x512x64, .f32⟩
  | 112 => ⟨S4x4x512x64, .f32⟩
  | 113 => ⟨S4x4x512x128, .f32⟩
  | 114 => ⟨S4x4x512x128, .f32⟩
  | 115 => ⟨S_, .i32⟩
  | 116 => ⟨S512x8, .i32⟩
  | 117 => ⟨S512x8, .i1⟩
  | 118 => ⟨S_, .i32⟩
  | 119 => ⟨S512x8, .i32⟩
  | 120 => ⟨S512x8, .i32⟩
  | 121 => ⟨S512x8, .i32⟩
  | 122 => ⟨S512x8x1, .i32⟩
  | 123 => ⟨S4x4x512x8x128, .f32⟩
  | 124 => ⟨S_, .i32⟩
  | 125 => ⟨S512x8, .i32⟩
  | 126 => ⟨S512x8, .i1⟩
  | 127 => ⟨S_, .i32⟩
  | _ => ⟨S4x4x585x128, .f32⟩

abbrev hbmTy0_1 (i : Nat) : BufTy := match i % 128 with
  | 0 => ⟨S512x8, .i32⟩
  | 1 => ⟨S512x8, .i32⟩
  | 2 => ⟨S512x8, .i32⟩
  | 3 => ⟨S512x8x1, .i32⟩
  | 4 => ⟨S4x4x512x8x128, .f32⟩
  | 5 => ⟨S4x4x512x8, .f32⟩
  | 6 => ⟨S_, .f32⟩
  | 7 => ⟨S_, .f32⟩
  | 8 => ⟨S4x4x512x8, .f32⟩
  | 9 => ⟨S4x4x512x8, .f32⟩
  | 10 => ⟨S_, .f32⟩
  | 11 => ⟨S4x4x512, .f32⟩
  | 12 => ⟨S_, .f32⟩
  | 13 => ⟨S4x4x512, .f32⟩
  | 14 => ⟨S4x4x512, .f32⟩
  | 15 => ⟨S4x4x512x1, .f32⟩
  | 16 => ⟨S4x4x512x8, .f32⟩
  | 17 => ⟨S4x4x512x8, .f32⟩
  | 18 => ⟨S4x4x512x8, .f32⟩
  | 19 => ⟨S_, .f32⟩
  | 20 => ⟨S4x4x512, .f32⟩
  | 21 => ⟨S4x4x512x1, .f32⟩
  | 22 => ⟨S4x4x512x8, .f32⟩
  | 23 => ⟨S4x4x512x8, .f32⟩
  | 24 => ⟨S4x4x512x128, .f32⟩
  | 25 => ⟨S4x4x512x128, .f32⟩
  | 26 => ⟨S_, .f32⟩
  | 27 => ⟨S4x4x512x128, .f32⟩
  | 28 => ⟨S4x4x512x128, .f32⟩
  | 29 => ⟨S_, .f32⟩
  | 30 => ⟨S4x4x512x128, .f32⟩
  | 31 => ⟨S4x4x512x128, .f32⟩
  | 32 => ⟨S_, .i32⟩
  | 33 => ⟨S1, .i32⟩
  | 34 => ⟨S4x4x585x128, .f32⟩
  | 35 => ⟨S64, .i32⟩
  | 36 => ⟨S64x1, .i32⟩
  | 37 => ⟨S8, .i32⟩
  | 38 => ⟨S1x8, .i32⟩
  | 39 => ⟨S_, .i32⟩
  | 40 => ⟨S1x8, .i32⟩
  | 41 => ⟨S1x8, .i32⟩
  | 42 => ⟨S1x8, .f32⟩
  | 43 => ⟨S_, .f32⟩
  | 44 => ⟨S1x8, .f32⟩
  | 45 => ⟨S1x8, .f32⟩
  | 46 => ⟨S64x1, .f32⟩
  | 47 => ⟨S_, .f32⟩
  | 48 => ⟨S64x1, .f32⟩
  | 49 => ⟨S64x1, .f32⟩
  | 50 => ⟨S64x8, .f32⟩
  | 51 => ⟨S64x8, .f32⟩
  | 52 => ⟨S64x8, .i1⟩
  | 53 => ⟨S_, .i32⟩
  | 54 => ⟨S1x8, .i32⟩
  | 55 => ⟨S1x8, .i32⟩
  | 56 => ⟨S_, .i32⟩
  | 57 => ⟨S_, .i32⟩
  | 58 => ⟨S64x8, .i32⟩
  | 59 => ⟨S64x8, .i32⟩
  | 60 => ⟨S64x8, .i32⟩
  | 61 => ⟨S8, .i32⟩
  | 62 => ⟨S1x8, .i32⟩
  | 63 => ⟨S_, .i32⟩
  | 64 => ⟨S_, .i32⟩
  | 65 => ⟨S64x1, .i32⟩
  | 66 => ⟨S64x1, .i32⟩
  | 67 => ⟨S64x1, .i32⟩
  | 68 => ⟨S_, .i32⟩
  | 69 => ⟨S64x1, .i32⟩
  | 70 => ⟨S64x1, .i1⟩
  | 71 => ⟨S64x1, .i32⟩
  | 72 => ⟨S64x1, .i32⟩
  | 73 => ⟨S_, .i32⟩
  | 74 => ⟨S64x1, .i32⟩
  | 75 => ⟨S64x1, .i1⟩
  | 76 => ⟨S64x1, .i1⟩
  | 77 => ⟨S_, .i32⟩
  | 78 => ⟨S64x1, .i32⟩
  | 79 => ⟨S64x1, .i32⟩
  | 80 => ⟨S64x1, .i32⟩
  | 81 => ⟨S_, .i32⟩
  | 82 => ⟨S64x1, .i32⟩
  | 83 => ⟨S64x1, .i32⟩
  | 84 => ⟨S64x8, .i32⟩
  | 85 => ⟨S64x8, .i32⟩
  | 86 => ⟨S64x8, .i32⟩
  | 87 => ⟨S_, .i32⟩
  | 88 => ⟨S64x8, .i32⟩
  | 89 => ⟨S64x8, .i32⟩
  | 90 => ⟨S64x8, .f32⟩
  | 91 => ⟨S_, .f32⟩
  | 92 => ⟨S64x8, .f32⟩
  | 93 => ⟨S64x8, .f32⟩
  | 94 => ⟨S64x1, .f32⟩
  | 95 => ⟨S_, .f32⟩
  | 96 => ⟨S64x1, .f32⟩
  | 97 => ⟨S64x1, .f32⟩
  | 98 => ⟨S64x8, .f32⟩
  | 99 => ⟨S64x8, .i1⟩
  | 100 => ⟨S_, .i32⟩
  | 101 => ⟨S64x8, .i32⟩
  | 102 => ⟨S64x8, .i32⟩
  | 103 => ⟨S_, .i32⟩
  | 104 => ⟨S_, .i32⟩
  | 105 => ⟨S64x8, .i32⟩
  | 106 => ⟨S64x8, .i32⟩
  | 107 => ⟨S_, .i32⟩
  | 108 => ⟨S64x1, .i32⟩
  | 109 => ⟨S64x1, .i32⟩
  | 110 => ⟨S64x8, .i32⟩
  | 111 => ⟨S64x8, .i32⟩
  | 112 => ⟨S64x8, .i32⟩
  | 113 => ⟨S_, .i32⟩
  | 114 => ⟨S64x8, .i32⟩
  | 115 => ⟨S64x8, .i32⟩
  | 116 => ⟨S64x8, .f32⟩
  | 117 => ⟨S_, .f32⟩
  | 118 => ⟨S64x8, .f32⟩
  | 119 => ⟨S64x8, .f32⟩
  | 120 => ⟨S64x1, .f32⟩
  | 121 => ⟨S_, .f32⟩
  | 122 => ⟨S64x1, .f32⟩
  | 123 => ⟨S64x1, .f32⟩
  | 124 => ⟨S64x8, .f32⟩
  | 125 => ⟨S64x8, .i1⟩
  | 126 => ⟨S_, .i32⟩
  | 127 => ⟨S64x8, .i32⟩
  | _ => ⟨S4x4x585x128, .f32⟩

abbrev hbmTy0_2 (i : Nat) : BufTy := match i % 128 with
  | 0 => ⟨S64x8, .i32⟩
  | 1 => ⟨S_, .i32⟩
  | 2 => ⟨S_, .i32⟩
  | 3 => ⟨S64x8, .i32⟩
  | 4 => ⟨S64x8, .i32⟩
  | 5 => ⟨S4x4x64x128, .f32⟩
  | 6 => ⟨S_, .i32⟩
  | 7 => ⟨S64x8, .i32⟩
  | 8 => ⟨S64x8, .i1⟩
  | 9 => ⟨S_, .i32⟩
  | 10 => ⟨S64x8, .i32⟩
  | 11 => ⟨S64x8, .i32⟩
  | 12 => ⟨S64x8, .i32⟩
  | 13 => ⟨S64x8x1, .i32⟩
  | 14 => ⟨S4x4x64x8x128, .f32⟩
  | 15 => ⟨S_, .i32⟩
  | 16 => ⟨S64x8, .i32⟩
  | 17 => ⟨S64x8, .i1⟩
  | 18 => ⟨S_, .i32⟩
  | 19 => ⟨S64x8, .i32⟩
  | 20 => ⟨S64x8, .i32⟩
  | 21 => ⟨S64x8, .i32⟩
  | 22 => ⟨S64x8x1, .i32⟩
  | 23 => ⟨S4x4x64x8x128, .f32⟩
  | 24 => ⟨S4x4x64x8, .f32⟩
  | 25 => ⟨S_, .f32⟩
  | 26 => ⟨S_, .f32⟩
  | 27 => ⟨S4x4x64x8, .f32⟩
  | 28 => ⟨S4x4x64x8, .f32⟩
  | 29 => ⟨S_, .f32⟩
  | 30 => ⟨S4x4x64, .f32⟩
  | 31 => ⟨S_, .f32⟩
  | 32 => ⟨S4x4x64, .f32⟩
  | 33 => ⟨S4x4x64, .f32⟩
  | 34 => ⟨S4x4x64x1, .f32⟩
  | 35 => ⟨S4x4x64x8, .f32⟩
  | 36 => ⟨S4x4x64x8, .f32⟩
  | 37 => ⟨S4x4x64x8, .f32⟩
  | 38 => ⟨S_, .f32⟩
  | 39 => ⟨S4x4x64, .f32⟩
  | 40 => ⟨S4x4x64x1, .f32⟩
  | 41 => ⟨S4x4x64x8, .f32⟩
  | 42 => ⟨S4x4x64x8, .f32⟩
  | 43 => ⟨S4x4x64x128, .f32⟩
  | 44 => ⟨S4x4x64x128, .f32⟩
  | 45 => ⟨S_, .i32⟩
  | 46 => ⟨S64x8, .i32⟩
  | 47 => ⟨S64x8, .i1⟩
  | 48 => ⟨S_, .i32⟩
  | 49 => ⟨S64x8, .i32⟩
  | 50 => ⟨S64x8, .i32⟩
  | 51 => ⟨S64x8, .i32⟩
  | 52 => ⟨S64x8x1, .i32⟩
  | 53 => ⟨S4x4x64x8x128, .f32⟩
  | 54 => ⟨S_, .i32⟩
  | 55 => ⟨S64x8, .i32⟩
  | 56 => ⟨S64x8, .i1⟩
  | 57 => ⟨S_, .i32⟩
  | 58 => ⟨S64x8, .i32⟩
  | 59 => ⟨S64x8, .i32⟩
  | 60 => ⟨S64x8, .i32⟩
  | 61 => ⟨S64x8x1, .i32⟩
  | 62 => ⟨S4x4x64x8x128, .f32⟩
  | 63 => ⟨S4x4x64x8, .f32⟩
  | 64 => ⟨S_, .f32⟩
  | 65 => ⟨S_, .f32⟩
  | 66 => ⟨S4x4x64x8, .f32⟩
  | 67 => ⟨S4x4x64x8, .f32⟩
  | 68 => ⟨S_, .f32⟩
  | 69 => ⟨S4x4x64, .f32⟩
  | 70 => ⟨S_, .f32⟩
  | 71 => ⟨S4x4x64, .f32⟩
  | 72 => ⟨S4x4x64, .f32⟩
  | 73 => ⟨S4x4x64x1, .f32⟩
  | 74 => ⟨S4x4x64x8, .f32⟩
  | 75 => ⟨S4x4x64x8, .f32⟩
  | 76 => ⟨S4x4x64x8, .f32⟩
  | 77 => ⟨S_, .f32⟩
  | 78 => ⟨S4x4x64, .f32⟩
  | 79 => ⟨S4x4x64x1, .f32⟩
  | 80 => ⟨S4x4x64x8, .f32⟩
  | 81 => ⟨S4x4x64x8, .f32⟩
  | 82 => ⟨S4x4x64x128, .f32⟩
  | 83 => ⟨S4x4x64x128, .f32⟩
  | 84 => ⟨S_, .i32⟩
  | 85 => ⟨S64x8, .i32⟩
  | 86 => ⟨S64x8, .i1⟩
  | 87 => ⟨S_, .i32⟩
  | 88 => ⟨S64x8, .i32⟩
  | 89 => ⟨S64x8, .i32⟩
  | 90 => ⟨S64x8, .i32⟩
  | 91 => ⟨S64x8x1, .i32⟩
  | 92 => ⟨S4x4x64x8x128, .f32⟩
  | 93 => ⟨S_, .i32⟩
  | 94 => ⟨S64x8, .i32⟩
  | 95 => ⟨S64x8, .i1⟩
  | 96 => ⟨S_, .i32⟩
  | 97 => ⟨S64x8, .i32⟩
  | 98 => ⟨S64x8, .i32⟩
  | 99 => ⟨S64x8, .i32⟩
  | 100 => ⟨S64x8x1, .i32⟩
  | 101 => ⟨S4x4x64x8x128, .f32⟩
  | 102 => ⟨S4x4x64x8, .f32⟩
  | 103 => ⟨S_, .f32⟩
  | 104 => ⟨S_, .f32⟩
  | 105 => ⟨S4x4x64x8, .f32⟩
  | 106 => ⟨S4x4x64x8, .f32⟩
  | 107 => ⟨S_, .f32⟩
  | 108 => ⟨S4x4x64, .f32⟩
  | 109 => ⟨S_, .f32⟩
  | 110 => ⟨S4x4x64, .f32⟩
  | 111 => ⟨S4x4x64, .f32⟩
  | 112 => ⟨S4x4x64x1, .f32⟩
  | 113 => ⟨S4x4x64x8, .f32⟩
  | 114 => ⟨S4x4x64x8, .f32⟩
  | 115 => ⟨S4x4x64x8, .f32⟩
  | 116 => ⟨S_, .f32⟩
  | 117 => ⟨S4x4x64, .f32⟩
  | 118 => ⟨S4x4x64x1, .f32⟩
  | 119 => ⟨S4x4x64x8, .f32⟩
  | 120 => ⟨S4x4x64x8, .f32⟩
  | 121 => ⟨S4x4x64x128, .f32⟩
  | 122 => ⟨S4x4x64x128, .f32⟩
  | 123 => ⟨S4x4x64x128, .f32⟩
  | 124 => ⟨S_, .f32⟩
  | 125 => ⟨S4x4x64x128, .f32⟩
  | 126 => ⟨S4x4x64x128, .f32⟩
  | 127 => ⟨S_, .i32⟩
  | _ => ⟨S4x4x585x128, .f32⟩

abbrev hbmTy0_3 (i : Nat) : BufTy := match i % 128 with
  | 0 => ⟨S1, .i32⟩
  | 1 => ⟨S4x4x585x128, .f32⟩
  | 2 => ⟨S8, .i32⟩
  | 3 => ⟨S8x1, .i32⟩
  | 4 => ⟨S1, .i32⟩
  | 5 => ⟨S1x1, .i32⟩
  | 6 => ⟨S_, .i32⟩
  | 7 => ⟨S1x1, .i32⟩
  | 8 => ⟨S1x1, .i32⟩
  | 9 => ⟨S1x1, .f32⟩
  | 10 => ⟨S_, .f32⟩
  | 11 => ⟨S1x1, .f32⟩
  | 12 => ⟨S1x1, .f32⟩
  | 13 => ⟨S8x1, .f32⟩
  | 14 => ⟨S_, .f32⟩
  | 15 => ⟨S8x1, .f32⟩
  | 16 => ⟨S8x1, .f32⟩
  | 17 => ⟨S8x1, .f32⟩
  | 18 => ⟨S8x1, .i1⟩
  | 19 => ⟨S_, .i32⟩
  | 20 => ⟨S1x1, .i32⟩
  | 21 => ⟨S1x1, .i32⟩
  | 22 => ⟨S_, .i32⟩
  | 23 => ⟨S_, .i32⟩
  | 24 => ⟨S8x1, .i32⟩
  | 25 => ⟨S8x1, .i32⟩
  | 26 => ⟨S8x1, .i32⟩
  | 27 => ⟨S8, .i32⟩
  | 28 => ⟨S1x8, .i32⟩
  | 29 => ⟨S_, .i32⟩
  | 30 => ⟨S_, .i32⟩
  | 31 => ⟨S8x1, .i32⟩
  | 32 => ⟨S8x1, .i32⟩
  | 33 => ⟨S8x1, .i32⟩
  | 34 => ⟨S_, .i32⟩
  | 35 => ⟨S8x1, .i32⟩
  | 36 => ⟨S8x1, .i1⟩
  | 37 => ⟨S8x1, .i32⟩
  | 38 => ⟨S8x1, .i32⟩
  | 39 => ⟨S_, .i32⟩
  | 40 => ⟨S8x1, .i32⟩
  | 41 => ⟨S8x1, .i1⟩
  | 42 => ⟨S8x1, .i1⟩
  | 43 => ⟨S_, .i32⟩
  | 44 => ⟨S8x1, .i32⟩
  | 45 => ⟨S8x1, .i32⟩
  | 46 => ⟨S8x1, .i32⟩
  | 47 => ⟨S_, .i32⟩
  | 48 => ⟨S8x1, .i32⟩
  | 49 => ⟨S8x1, .i32⟩
  | 50 => ⟨S8x8, .i32⟩
  | 51 => ⟨S8x8, .i32⟩
  | 52 => ⟨S8x8, .i32⟩
  | 53 => ⟨S_, .i32⟩
  | 54 => ⟨S8x8, .i32⟩
  | 55 => ⟨S8x8, .i32⟩
  | 56 => ⟨S8x8, .f32⟩
  | 57 => ⟨S_, .f32⟩
  | 58 => ⟨S8x8, .f32⟩
  | 59 => ⟨S8x8, .f32⟩
  | 60 => ⟨S8x1, .f32⟩
  | 61 => ⟨S_, .f32⟩
  | 62 => ⟨S8x1, .f32⟩
  | 63 => ⟨S8x1, .f32⟩
  | 64 => ⟨S8x8, .f32⟩
  | 65 => ⟨S8x8, .i1⟩
  | 66 => ⟨S_, .i32⟩
  | 67 => ⟨S8x8, .i32⟩
  | 68 => ⟨S8x8, .i32⟩
  | 69 => ⟨S_, .i32⟩
  | 70 => ⟨S_, .i32⟩
  | 71 => ⟨S8x8, .i32⟩
  | 72 => ⟨S8x8, .i32⟩
  | 73 => ⟨S_, .i32⟩
  | 74 => ⟨S8x1, .i32⟩
  | 75 => ⟨S8x1, .i32⟩
  | 76 => ⟨S8x8, .i32⟩
  | 77 => ⟨S8x8, .i32⟩
  | 78 => ⟨S8x8, .i32⟩
  | 79 => ⟨S_, .i32⟩
  | 80 => ⟨S8x8, .i32⟩
  | 81 => ⟨S8x8, .i32⟩
  | 82 => ⟨S8x8, .f32⟩
  | 83 => ⟨S_, .f32⟩
  | 84 => ⟨S8x8, .f32⟩
  | 85 => ⟨S8x8, .f32⟩
  | 86 => ⟨S8x1, .f32⟩
  | 87 => ⟨S_, .f32⟩
  | 88 => ⟨S8x1, .f32⟩
  | 89 => ⟨S8x1, .f32⟩
  | 90 => ⟨S8x8, .f32⟩
  | 91 => ⟨S8x8, .i1⟩
  | 92 => ⟨S_, .i32⟩
  | 93 => ⟨S8x8, .i32⟩
  | 94 => ⟨S8x8, .i32⟩
  | 95 => ⟨S_, .i32⟩
  | 96 => ⟨S_, .i32⟩
  | 97 => ⟨S8x8, .i32⟩
  | 98 => ⟨S8x8, .i32⟩
  | 99 => ⟨S4x4x8x128, .f32⟩
  | 100 => ⟨S_, .i32⟩
  | 101 => ⟨S8x1, .i32⟩
  | 102 => ⟨S8x1, .i1⟩
  | 103 => ⟨S_, .i32⟩
  | 104 => ⟨S8x1, .i32⟩
  | 105 => ⟨S8x1, .i32⟩
  | 106 => ⟨S8x1, .i32⟩
  | 107 => ⟨S8x1x1, .i32⟩
  | 108 => ⟨S4x4x8x1x128, .f32⟩
  | 109 => ⟨S_, .i32⟩
  | 110 => ⟨S8x1, .i32⟩
  | 111 => ⟨S8x1, .i1⟩
  | 112 => ⟨S_, .i32⟩
  | 113 => ⟨S8x1, .i32⟩
  | 114 => ⟨S8x1, .i32⟩
  | 115 => ⟨S8x1, .i32⟩
  | 116 => ⟨S8x1x1, .i32⟩
  | 117 => ⟨S4x4x8x1x128, .f32⟩
  | 118 => ⟨S4x4x8x1, .f32⟩
  | 119 => ⟨S_, .f32⟩
  | 120 => ⟨S_, .f32⟩
  | 121 => ⟨S4x4x8x1, .f32⟩
  | 122 => ⟨S4x4x8x1, .f32⟩
  | 123 => ⟨S_, .f32⟩
  | 124 => ⟨S4x4x8, .f32⟩
  | 125 => ⟨S_, .f32⟩
  | 126 => ⟨S4x4x8, .f32⟩
  | 127 => ⟨S4x4x8, .f32⟩
  | _ => ⟨S4x4x585x128, .f32⟩

abbrev hbmTy0_4 (i : Nat) : BufTy := match i % 128 with
  | 0 => ⟨S4x4x8x1, .f32⟩
  | 1 => ⟨S4x4x8x1, .f32⟩
  | 2 => ⟨S4x4x8x1, .f32⟩
  | 3 => ⟨S_, .f32⟩
  | 4 => ⟨S4x4x8, .f32⟩
  | 5 => ⟨S4x4x8x1, .f32⟩
  | 6 => ⟨S4x4x8x1, .f32⟩
  | 7 => ⟨S4x4x8x128, .f32⟩
  | 8 => ⟨S4x4x8x128, .f32⟩
  | 9 => ⟨S_, .i32⟩
  | 10 => ⟨S8x8, .i32⟩
  | 11 => ⟨S8x8, .i1⟩
  | 12 => ⟨S_, .i32⟩
  | 13 => ⟨S8x8, .i32⟩
  | 14 => ⟨S8x8, .i32⟩
  | 15 => ⟨S8x8, .i32⟩
  | 16 => ⟨S8x8x1, .i32⟩
  | 17 => ⟨S4x4x8x8x128, .f32⟩
  | 18 => ⟨S_, .i32⟩
  | 19 => ⟨S8x8, .i32⟩
  | 20 => ⟨S8x8, .i1⟩
  | 21 => ⟨S_, .i32⟩
  | 22 => ⟨S8x8, .i32⟩
  | 23 => ⟨S8x8, .i32⟩
  | 24 => ⟨S8x8, .i32⟩
  | 25 => ⟨S8x8x1, .i32⟩
  | 26 => ⟨S4x4x8x8x128, .f32⟩
  | 27 => ⟨S4x4x8x8, .f32⟩
  | 28 => ⟨S_, .f32⟩
  | 29 => ⟨S_, .f32⟩
  | 30 => ⟨S4x4x8x8, .f32⟩
  | 31 => ⟨S4x4x8x8, .f32⟩
  | 32 => ⟨S_, .f32⟩
  | 33 => ⟨S4x4x8, .f32⟩
  | 34 => ⟨S_, .f32⟩
  | 35 => ⟨S4x4x8, .f32⟩
  | 36 => ⟨S4x4x8, .f32⟩
  | 37 => ⟨S4x4x8x1, .f32⟩
  | 38 => ⟨S4x4x8x8, .f32⟩
  | 39 => ⟨S4x4x8x8, .f32⟩
  | 40 => ⟨S4x4x8x8, .f32⟩
  | 41 => ⟨S_, .f32⟩
  | 42 => ⟨S4x4x8, .f32⟩
  | 43 => ⟨S4x4x8x1, .f32⟩
  | 44 => ⟨S4x4x8x8, .f32⟩
  | 45 => ⟨S4x4x8x8, .f32⟩
  | 46 => ⟨S4x4x8x128, .f32⟩
  | 47 => ⟨S4x4x8x128, .f32⟩
  | 48 => ⟨S_, .i32⟩
  | 49 => ⟨S8x8, .i32⟩
  | 50 => ⟨S8x8, .i1⟩
  | 51 => ⟨S_, .i32⟩
  | 52 => ⟨S8x8, .i32⟩
  | 53 => ⟨S8x8, .i32⟩
  | 54 => ⟨S8x8, .i32⟩
  | 55 => ⟨S8x8x1, .i32⟩
  | 56 => ⟨S4x4x8x8x128, .f32⟩
  | 57 => ⟨S_, .i32⟩
  | 58 => ⟨S8x8, .i32⟩
  | 59 => ⟨S8x8, .i1⟩
  | 60 => ⟨S_, .i32⟩
  | 61 => ⟨S8x8, .i32⟩
  | 62 => ⟨S8x8, .i32⟩
  | 63 => ⟨S8x8, .i32⟩
  | 64 => ⟨S8x8x1, .i32⟩
  | 65 => ⟨S4x4x8x8x128, .f32⟩
  | 66 => ⟨S4x4x8x8, .f32⟩
  | 67 => ⟨S_, .f32⟩
  | 68 => ⟨S_, .f32⟩
  | 69 => ⟨S4x4x8x8, .f32⟩
  | 70 => ⟨S4x4x8x8, .f32⟩
  | 71 => ⟨S_, .f32⟩
  | 72 => ⟨S4x4x8, .f32⟩
  | 73 => ⟨S_, .f32⟩
  | 74 => ⟨S4x4x8, .f32⟩
  | 75 => ⟨S4x4x8, .f32⟩
  | 76 => ⟨S4x4x8x1, .f32⟩
  | 77 => ⟨S4x4x8x8, .f32⟩
  | 78 => ⟨S4x4x8x8, .f32⟩
  | 79 => ⟨S4x4x8x8, .f32⟩
  | 80 => ⟨S_, .f32⟩
  | 81 => ⟨S4x4x8, .f32⟩
  | 82 => ⟨S4x4x8x1, .f32⟩
  | 83 => ⟨S4x4x8x8, .f32⟩
  | 84 => ⟨S4x4x8x8, .f32⟩
  | 85 => ⟨S4x4x8x128, .f32⟩
  | 86 => ⟨S4x4x8x128, .f32⟩
  | 87 => ⟨S4x4x8x128, .f32⟩
  | 88 => ⟨S_, .f32⟩
  | 89 => ⟨S4x4x8x128, .f32⟩
  | 90 => ⟨S4x4x8x128, .f32⟩
  | 91 => ⟨S_, .i32⟩
  | 92 => ⟨S1, .i32⟩
  | 93 => ⟨S4x4x585x128, .f32⟩
  | 94 => ⟨S1, .i32⟩
  | 95 => ⟨S1x1, .i32⟩
  | 96 => ⟨S8, .i32⟩
  | 97 => ⟨S1x8, .i32⟩
  | 98 => ⟨S_, .i32⟩
  | 99 => ⟨S_, .i32⟩
  | 100 => ⟨S1x1, .i32⟩
  | 101 => ⟨S1x1, .i32⟩
  | 102 => ⟨S1x1, .i32⟩
  | 103 => ⟨S_, .i32⟩
  | 104 => ⟨S1x1, .i32⟩
  | 105 => ⟨S1x1, .i1⟩
  | 106 => ⟨S1x1, .i32⟩
  | 107 => ⟨S1x1, .i32⟩
  | 108 => ⟨S_, .i32⟩
  | 109 => ⟨S1x1, .i32⟩
  | 110 => ⟨S1x1, .i1⟩
  | 111 => ⟨S1x1, .i1⟩
  | 112 => ⟨S_, .i32⟩
  | 113 => ⟨S1x1, .i32⟩
  | 114 => ⟨S1x1, .i32⟩
  | 115 => ⟨S1x1, .i32⟩
  | 116 => ⟨S_, .i32⟩
  | 117 => ⟨S1x1, .i32⟩
  | 118 => ⟨S1x1, .i32⟩
  | 119 => ⟨S1x8, .i32⟩
  | 120 => ⟨S1x8, .i32⟩
  | 121 => ⟨S_, .i32⟩
  | 122 => ⟨S1x8, .i32⟩
  | 123 => ⟨S1x8, .i32⟩
  | 124 => ⟨S1x8, .f32⟩
  | 125 => ⟨S_, .f32⟩
  | 126 => ⟨S1x8, .f32⟩
  | 127 => ⟨S1x8, .f32⟩
  | _ => ⟨S4x4x585x128, .f32⟩

abbrev hbmTy0_5 (i : Nat) : BufTy := match i % 128 with
  | 0 => ⟨S1x1, .f32⟩
  | 1 => ⟨S_, .f32⟩
  | 2 => ⟨S1x1, .f32⟩
  | 3 => ⟨S1x1, .f32⟩
  | 4 => ⟨S1x8, .f32⟩
  | 5 => ⟨S1x8, .i1⟩
  | 6 => ⟨S_, .i32⟩
  | 7 => ⟨S1x8, .i32⟩
  | 8 => ⟨S1x8, .i32⟩
  | 9 => ⟨S_, .i32⟩
  | 10 => ⟨S_, .i32⟩
  | 11 => ⟨S1x8, .i32⟩
  | 12 => ⟨S1x8, .i32⟩
  | 13 => ⟨S_, .i32⟩
  | 14 => ⟨S1x1, .i32⟩
  | 15 => ⟨S1x1, .i32⟩
  | 16 => ⟨S1x8, .i32⟩
  | 17 => ⟨S1x8, .i32⟩
  | 18 => ⟨S_, .i32⟩
  | 19 => ⟨S1x8, .i32⟩
  | 20 => ⟨S1x8, .i32⟩
  | 21 => ⟨S1x8, .f32⟩
  | 22 => ⟨S_, .f32⟩
  | 23 => ⟨S1x8, .f32⟩
  | 24 => ⟨S1x8, .f32⟩
  | 25 => ⟨S1x1, .f32⟩
  | 26 => ⟨S_, .f32⟩
  | 27 => ⟨S1x1, .f32⟩
  | 28 => ⟨S1x1, .f32⟩
  | 29 => ⟨S1x8, .f32⟩
  | 30 => ⟨S1x8, .i1⟩
  | 31 => ⟨S_, .i32⟩
  | 32 => ⟨S1x8, .i32⟩
  | 33 => ⟨S1x8, .i32⟩
  | 34 => ⟨S_, .i32⟩
  | 35 => ⟨S_, .i32⟩
  | 36 => ⟨S1x8, .i32⟩
  | 37 => ⟨S1x8, .i32⟩
  | 38 => ⟨S4x4x1x128, .f32⟩
  | 39 => ⟨S_, .i32⟩
  | 40 => ⟨S1x8, .i32⟩
  | 41 => ⟨S1x8, .i1⟩
  | 42 => ⟨S_, .i32⟩
  | 43 => ⟨S1x8, .i32⟩
  | 44 => ⟨S1x8, .i32⟩
  | 45 => ⟨S1x8, .i32⟩
  | 46 => ⟨S1x8x1, .i32⟩
  | 47 => ⟨S4x4x1x8x128, .f32⟩
  | 48 => ⟨S_, .i32⟩
  | 49 => ⟨S1x8, .i32⟩
  | 50 => ⟨S1x8, .i1⟩
  | 51 => ⟨S_, .i32⟩
  | 52 => ⟨S1x8, .i32⟩
  | 53 => ⟨S1x8, .i32⟩
  | 54 => ⟨S1x8, .i32⟩
  | 55 => ⟨S1x8x1, .i32⟩
  | 56 => ⟨S4x4x1x8x128, .f32⟩
  | 57 => ⟨S4x4x1x8, .f32⟩
  | 58 => ⟨S_, .f32⟩
  | 59 => ⟨S_, .f32⟩
  | 60 => ⟨S4x4x1x8, .f32⟩
  | 61 => ⟨S4x4x1x8, .f32⟩
  | 62 => ⟨S_, .f32⟩
  | 63 => ⟨S4x4x1, .f32⟩
  | 64 => ⟨S_, .f32⟩
  | 65 => ⟨S4x4x1, .f32⟩
  | 66 => ⟨S4x4x1, .f32⟩
  | 67 => ⟨S4x4x1x1, .f32⟩
  | 68 => ⟨S4x4x1x8, .f32⟩
  | 69 => ⟨S4x4x1x8, .f32⟩
  | 70 => ⟨S4x4x1x8, .f32⟩
  | 71 => ⟨S_, .f32⟩
  | 72 => ⟨S4x4x1, .f32⟩
  | 73 => ⟨S4x4x1x1, .f32⟩
  | 74 => ⟨S4x4x1x8, .f32⟩
  | 75 => ⟨S4x4x1x8, .f32⟩
  | 76 => ⟨S4x4x1x128, .f32⟩
  | 77 => ⟨S4x4x1x128, .f32⟩
  | 78 => ⟨S_, .i32⟩
  | 79 => ⟨S1x8, .i32⟩
  | 80 => ⟨S1x8, .i1⟩
  | 81 => ⟨S_, .i32⟩
  | 82 => ⟨S1x8, .i32⟩
  | 83 => ⟨S1x8, .i32⟩
  | 84 => ⟨S1x8, .i32⟩
  | 85 => ⟨S1x8x1, .i32⟩
  | 86 => ⟨S4x4x1x8x128, .f32⟩
  | 87 => ⟨S_, .i32⟩
  | 88 => ⟨S1x8, .i32⟩
  | 89 => ⟨S1x8, .i1⟩
  | 90 => ⟨S_, .i32⟩
  | 91 => ⟨S1x8, .i32⟩
  | 92 => ⟨S1x8, .i32⟩
  | 93 => ⟨S1x8, .i32⟩
  | 94 => ⟨S1x8x1, .i32⟩
  | 95 => ⟨S4x4x1x8x128, .f32⟩
  | 96 => ⟨S4x4x1x8, .f32⟩
  | 97 => ⟨S_, .f32⟩
  | 98 => ⟨S_, .f32⟩
  | 99 => ⟨S4x4x1x8, .f32⟩
  | 100 => ⟨S4x4x1x8, .f32⟩
  | 101 => ⟨S_, .f32⟩
  | 102 => ⟨S4x4x1, .f32⟩
  | 103 => ⟨S_, .f32⟩
  | 104 => ⟨S4x4x1, .f32⟩
  | 105 => ⟨S4x4x1, .f32⟩
  | 106 => ⟨S4x4x1x1, .f32⟩
  | 107 => ⟨S4x4x1x8, .f32⟩
  | 108 => ⟨S4x4x1x8, .f32⟩
  | 109 => ⟨S4x4x1x8, .f32⟩
  | 110 => ⟨S_, .f32⟩
  | 111 => ⟨S4x4x1, .f32⟩
  | 112 => ⟨S4x4x1x1, .f32⟩
  | 113 => ⟨S4x4x1x8, .f32⟩
  | 114 => ⟨S4x4x1x8, .f32⟩
  | 115 => ⟨S4x4x1x128, .f32⟩
  | 116 => ⟨S_, .f32⟩
  | 117 => ⟨S4x4x1x128, .f32⟩
  | 118 => ⟨S4x4x1x128, .f32⟩
  | 119 => ⟨S4x4x1x128, .f32⟩
  | 120 => ⟨S_, .f32⟩
  | 121 => ⟨S4x4x1x128, .f32⟩
  | 122 => ⟨S4x4x1x128, .f32⟩
  | 123 => ⟨S_, .i32⟩
  | 124 => ⟨S1, .i32⟩
  | 125 => ⟨S4x4x585x128, .f32⟩
  | _ => ⟨S4x4x585x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S4x4x585x128, .f32⟩

abbrev bufTy : (tb : Table) → Fin (tcTables nBuf tb) → BufTy
  | .hbm, ⟨i, _⟩ => hbmTy i
  | _, _ => ⟨S4x4x585x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v20 : Ref sig .tc := ⟨.hbm, 48, rfl⟩
abbrev main_c_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_5 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst_6 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_cst_7 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_8 : Ref sig .tc := ⟨.hbm, 68, rfl⟩
abbrev main_v36 : Ref sig .tc := ⟨.hbm, 69, rfl⟩
abbrev main_v37 : Ref sig .tc := ⟨.hbm, 70, rfl⟩
abbrev main_c_9 : Ref sig .tc := ⟨.hbm, 71, rfl⟩
abbrev main_call2_v0 : Ref sig .tc := ⟨.hbm, 72, rfl⟩
abbrev main_call2_v1 : Ref sig .tc := ⟨.hbm, 73, rfl⟩
abbrev main_v38 : Ref sig .tc := ⟨.hbm, 74, rfl⟩
abbrev main_v39 : Ref sig .tc := ⟨.hbm, 75, rfl⟩
abbrev main_c_10 : Ref sig .tc := ⟨.hbm, 76, rfl⟩
abbrev main_v40 : Ref sig .tc := ⟨.hbm, 77, rfl⟩
abbrev main_v41 : Ref sig .tc := ⟨.hbm, 78, rfl⟩
abbrev main_c_11 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_c_12 : Ref sig .tc := ⟨.hbm, 85, rfl⟩
abbrev main_v47 : Ref sig .tc := ⟨.hbm, 86, rfl⟩
abbrev main_v48 : Ref sig .tc := ⟨.hbm, 87, rfl⟩
abbrev main_c_13 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_cst_14 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_cst_15 : Ref sig .tc := ⟨.hbm, 99, rfl⟩
abbrev main_v58 : Ref sig .tc := ⟨.hbm, 100, rfl⟩
abbrev main_cst_16 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_cst_17 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_c_18 : Ref sig .tc := ⟨.hbm, 115, rfl⟩
abbrev main_v71 : Ref sig .tc := ⟨.hbm, 116, rfl⟩
abbrev main_v72 : Ref sig .tc := ⟨.hbm, 117, rfl⟩
abbrev main_c_19 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_c_20 : Ref sig .tc := ⟨.hbm, 124, rfl⟩
abbrev main_v78 : Ref sig .tc := ⟨.hbm, 125, rfl⟩
abbrev main_v79 : Ref sig .tc := ⟨.hbm, 126, rfl⟩
abbrev main_c_21 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_22 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_cst_23 : Ref sig .tc := ⟨.hbm, 138, rfl⟩
abbrev main_v89 : Ref sig .tc := ⟨.hbm, 139, rfl⟩
abbrev main_cst_24 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_25 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_cst_26 : Ref sig .tc := ⟨.hbm, 154, rfl⟩
abbrev main_v102 : Ref sig .tc := ⟨.hbm, 155, rfl⟩
abbrev main_v103 : Ref sig .tc := ⟨.hbm, 156, rfl⟩
abbrev main_cst_27 : Ref sig .tc := ⟨.hbm, 157, rfl⟩
abbrev main_v104 : Ref sig .tc := ⟨.hbm, 158, rfl⟩
abbrev main_v105 : Ref sig .tc := ⟨.hbm, 159, rfl⟩
abbrev main_c_28 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_c_29 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_30 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_31 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_c_32 : Ref sig .tc := ⟨.hbm, 181, rfl⟩
abbrev main_v123 : Ref sig .tc := ⟨.hbm, 182, rfl⟩
abbrev main_v124 : Ref sig .tc := ⟨.hbm, 183, rfl⟩
abbrev main_c_33 : Ref sig .tc := ⟨.hbm, 184, rfl⟩
abbrev main_call3_v0 : Ref sig .tc := ⟨.hbm, 185, rfl⟩
abbrev main_call3_v1 : Ref sig .tc := ⟨.hbm, 186, rfl⟩
abbrev main_call3_v2 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_c_34 : Ref sig .tc := ⟨.hbm, 191, rfl⟩
abbrev main_call4_v0 : Ref sig .tc := ⟨.hbm, 192, rfl⟩
abbrev main_call4_v1 : Ref sig .tc := ⟨.hbm, 193, rfl⟩
abbrev main_call4_v2 : Ref sig .tc := ⟨.hbm, 194, rfl⟩
abbrev main_call4_v3 : Ref sig .tc := ⟨.hbm, 195, rfl⟩
abbrev main_call4_v4 : Ref sig .tc := ⟨.hbm, 196, rfl⟩
abbrev main_call4_v5 : Ref sig .tc := ⟨.hbm, 197, rfl⟩
abbrev main_call4_v6 : Ref sig .tc := ⟨.hbm, 198, rfl⟩
abbrev main_call4_v7 : Ref sig .tc := ⟨.hbm, 199, rfl⟩
abbrev main_call4_v8 : Ref sig .tc := ⟨.hbm, 200, rfl⟩
abbrev main_call4_c : Ref sig .tc := ⟨.hbm, 201, rfl⟩
abbrev main_call4_v9 : Ref sig .tc := ⟨.hbm, 202, rfl⟩
abbrev main_call4_v10 : Ref sig .tc := ⟨.hbm, 203, rfl⟩
abbrev main_call4_v11 : Ref sig .tc := ⟨.hbm, 204, rfl⟩
abbrev main_call4_c_0 : Ref sig .tc := ⟨.hbm, 205, rfl⟩
abbrev main_call4_v12 : Ref sig .tc := ⟨.hbm, 206, rfl⟩
abbrev main_call4_v13 : Ref sig .tc := ⟨.hbm, 207, rfl⟩
abbrev main_v128 : Ref sig .tc := ⟨.hbm, 208, rfl⟩
abbrev main_c_35 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_c_36 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_cst_37 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_cst_38 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_c_39 : Ref sig .tc := ⟨.hbm, 228, rfl⟩
abbrev main_v144 : Ref sig .tc := ⟨.hbm, 229, rfl⟩
abbrev main_v145 : Ref sig .tc := ⟨.hbm, 230, rfl⟩
abbrev main_c_40 : Ref sig .tc := ⟨.hbm, 231, rfl⟩
abbrev main_call5_v0 : Ref sig .tc := ⟨.hbm, 232, rfl⟩
abbrev main_call5_v1 : Ref sig .tc := ⟨.hbm, 233, rfl⟩
abbrev main_v146 : Ref sig .tc := ⟨.hbm, 234, rfl⟩
abbrev main_c_41 : Ref sig .tc := ⟨.hbm, 235, rfl⟩
abbrev main_v147 : Ref sig .tc := ⟨.hbm, 236, rfl⟩
abbrev main_v148 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_c_42 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_43 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_cst_44 : Ref sig .tc := ⟨.hbm, 249, rfl⟩
abbrev main_v158 : Ref sig .tc := ⟨.hbm, 250, rfl⟩
abbrev main_v159 : Ref sig .tc := ⟨.hbm, 251, rfl⟩
abbrev main_v160 : Ref sig .tc := ⟨.hbm, 252, rfl⟩
abbrev main_v161 : Ref sig .tc := ⟨.hbm, 253, rfl⟩
abbrev main_c_45 : Ref sig .tc := ⟨.hbm, 254, rfl⟩
abbrev main_v162 : Ref sig .tc := ⟨.hbm, 255, rfl⟩
abbrev main_v163 : Ref sig .tc := ⟨.hbm, 256, rfl⟩
abbrev main_c_46 : Ref sig .tc := ⟨.hbm, 257, rfl⟩
abbrev main_call6_v0 : Ref sig .tc := ⟨.hbm, 258, rfl⟩
abbrev main_call6_v1 : Ref sig .tc := ⟨.hbm, 259, rfl⟩
abbrev main_v164 : Ref sig .tc := ⟨.hbm, 260, rfl⟩
abbrev main_v165 : Ref sig .tc := ⟨.hbm, 261, rfl⟩
abbrev main_c_47 : Ref sig .tc := ⟨.hbm, 262, rfl⟩
abbrev main_v166 : Ref sig .tc := ⟨.hbm, 263, rfl⟩
abbrev main_v167 : Ref sig .tc := ⟨.hbm, 264, rfl⟩
abbrev main_c_48 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_c_49 : Ref sig .tc := ⟨.hbm, 271, rfl⟩
abbrev main_v173 : Ref sig .tc := ⟨.hbm, 272, rfl⟩
abbrev main_v174 : Ref sig .tc := ⟨.hbm, 273, rfl⟩
abbrev main_c_50 : Ref sig .tc := ⟨.hbm, 274, rfl⟩
abbrev main_v175 : Ref sig .tc := ⟨.hbm, 275, rfl⟩
abbrev main_v176 : Ref sig .tc := ⟨.hbm, 276, rfl⟩
abbrev main_v177 : Ref sig .tc := ⟨.hbm, 277, rfl⟩
abbrev main_v178 : Ref sig .tc := ⟨.hbm, 278, rfl⟩
abbrev main_v179 : Ref sig .tc := ⟨.hbm, 279, rfl⟩
abbrev main_v180 : Ref sig .tc := ⟨.hbm, 280, rfl⟩
abbrev main_cst_51 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_cst_52 : Ref sig .tc := ⟨.hbm, 285, rfl⟩
abbrev main_v184 : Ref sig .tc := ⟨.hbm, 286, rfl⟩
abbrev main_cst_53 : Ref sig .tc := ⟨.hbm, 287, rfl⟩
abbrev main_v185 : Ref sig .tc := ⟨.hbm, 288, rfl⟩
abbrev main_v186 : Ref sig .tc := ⟨.hbm, 289, rfl⟩
abbrev main_v187 : Ref sig .tc := ⟨.hbm, 290, rfl⟩
abbrev main_v188 : Ref sig .tc := ⟨.hbm, 291, rfl⟩
abbrev main_v189 : Ref sig .tc := ⟨.hbm, 292, rfl⟩
abbrev main_v190 : Ref sig .tc := ⟨.hbm, 293, rfl⟩
abbrev main_cst_54 : Ref sig .tc := ⟨.hbm, 294, rfl⟩
abbrev main_v191 : Ref sig .tc := ⟨.hbm, 295, rfl⟩
abbrev main_v192 : Ref sig .tc := ⟨.hbm, 296, rfl⟩
abbrev main_v193 : Ref sig .tc := ⟨.hbm, 297, rfl⟩
abbrev main_v194 : Ref sig .tc := ⟨.hbm, 298, rfl⟩
abbrev main_v195 : Ref sig .tc := ⟨.hbm, 299, rfl⟩
abbrev main_v196 : Ref sig .tc := ⟨.hbm, 300, rfl⟩
abbrev main_c_55 : Ref sig .tc := ⟨.hbm, 301, rfl⟩
abbrev main_v197 : Ref sig .tc := ⟨.hbm, 302, rfl⟩
abbrev main_v198 : Ref sig .tc := ⟨.hbm, 303, rfl⟩
abbrev main_c_56 : Ref sig .tc := ⟨.hbm, 304, rfl⟩
abbrev main_v199 : Ref sig .tc := ⟨.hbm, 305, rfl⟩
abbrev main_v200 : Ref sig .tc := ⟨.hbm, 306, rfl⟩
abbrev main_v201 : Ref sig .tc := ⟨.hbm, 307, rfl⟩
abbrev main_v202 : Ref sig .tc := ⟨.hbm, 308, rfl⟩
abbrev main_v203 : Ref sig .tc := ⟨.hbm, 309, rfl⟩
abbrev main_c_57 : Ref sig .tc := ⟨.hbm, 310, rfl⟩
abbrev main_v204 : Ref sig .tc := ⟨.hbm, 311, rfl⟩
abbrev main_v205 : Ref sig .tc := ⟨.hbm, 312, rfl⟩
abbrev main_c_58 : Ref sig .tc := ⟨.hbm, 313, rfl⟩
abbrev main_v206 : Ref sig .tc := ⟨.hbm, 314, rfl⟩
abbrev main_v207 : Ref sig .tc := ⟨.hbm, 315, rfl⟩
abbrev main_v208 : Ref sig .tc := ⟨.hbm, 316, rfl⟩
abbrev main_v209 : Ref sig .tc := ⟨.hbm, 317, rfl⟩
abbrev main_v210 : Ref sig .tc := ⟨.hbm, 318, rfl⟩
abbrev main_v211 : Ref sig .tc := ⟨.hbm, 319, rfl⟩
abbrev main_cst_59 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_cst_60 : Ref sig .tc := ⟨.hbm, 324, rfl⟩
abbrev main_v215 : Ref sig .tc := ⟨.hbm, 325, rfl⟩
abbrev main_cst_61 : Ref sig .tc := ⟨.hbm, 326, rfl⟩
abbrev main_v216 : Ref sig .tc := ⟨.hbm, 327, rfl⟩
abbrev main_v217 : Ref sig .tc := ⟨.hbm, 328, rfl⟩
abbrev main_v218 : Ref sig .tc := ⟨.hbm, 329, rfl⟩
abbrev main_v219 : Ref sig .tc := ⟨.hbm, 330, rfl⟩
abbrev main_v220 : Ref sig .tc := ⟨.hbm, 331, rfl⟩
abbrev main_v221 : Ref sig .tc := ⟨.hbm, 332, rfl⟩
abbrev main_cst_62 : Ref sig .tc := ⟨.hbm, 333, rfl⟩
abbrev main_v222 : Ref sig .tc := ⟨.hbm, 334, rfl⟩
abbrev main_v223 : Ref sig .tc := ⟨.hbm, 335, rfl⟩
abbrev main_v224 : Ref sig .tc := ⟨.hbm, 336, rfl⟩
abbrev main_v225 : Ref sig .tc := ⟨.hbm, 337, rfl⟩
abbrev main_v226 : Ref sig .tc := ⟨.hbm, 338, rfl⟩
abbrev main_v227 : Ref sig .tc := ⟨.hbm, 339, rfl⟩
abbrev main_c_63 : Ref sig .tc := ⟨.hbm, 340, rfl⟩
abbrev main_v228 : Ref sig .tc := ⟨.hbm, 341, rfl⟩
abbrev main_v229 : Ref sig .tc := ⟨.hbm, 342, rfl⟩
abbrev main_c_64 : Ref sig .tc := ⟨.hbm, 343, rfl⟩
abbrev main_v230 : Ref sig .tc := ⟨.hbm, 344, rfl⟩
abbrev main_v231 : Ref sig .tc := ⟨.hbm, 345, rfl⟩
abbrev main_v232 : Ref sig .tc := ⟨.hbm, 346, rfl⟩
abbrev main_v233 : Ref sig .tc := ⟨.hbm, 347, rfl⟩
abbrev main_v234 : Ref sig .tc := ⟨.hbm, 348, rfl⟩
abbrev main_c_65 : Ref sig .tc := ⟨.hbm, 349, rfl⟩
abbrev main_v235 : Ref sig .tc := ⟨.hbm, 350, rfl⟩
abbrev main_v236 : Ref sig .tc := ⟨.hbm, 351, rfl⟩
abbrev main_c_66 : Ref sig .tc := ⟨.hbm, 352, rfl⟩
abbrev main_v237 : Ref sig .tc := ⟨.hbm, 353, rfl⟩
abbrev main_v238 : Ref sig .tc := ⟨.hbm, 354, rfl⟩
abbrev main_v239 : Ref sig .tc := ⟨.hbm, 355, rfl⟩
abbrev main_v240 : Ref sig .tc := ⟨.hbm, 356, rfl⟩
abbrev main_v241 : Ref sig .tc := ⟨.hbm, 357, rfl⟩
abbrev main_v242 : Ref sig .tc := ⟨.hbm, 358, rfl⟩
abbrev main_cst_67 : Ref sig .tc := ⟨.hbm, 359, rfl⟩
abbrev main_v243 : Ref sig .tc := ⟨.hbm, 360, rfl⟩
abbrev main_v244 : Ref sig .tc := ⟨.hbm, 361, rfl⟩
abbrev main_v245 : Ref sig .tc := ⟨.hbm, 362, rfl⟩
abbrev main_cst_68 : Ref sig .tc := ⟨.hbm, 363, rfl⟩
abbrev main_v246 : Ref sig .tc := ⟨.hbm, 364, rfl⟩
abbrev main_cst_69 : Ref sig .tc := ⟨.hbm, 365, rfl⟩
abbrev main_v247 : Ref sig .tc := ⟨.hbm, 366, rfl⟩
abbrev main_v248 : Ref sig .tc := ⟨.hbm, 367, rfl⟩
abbrev main_v249 : Ref sig .tc := ⟨.hbm, 368, rfl⟩
abbrev main_v250 : Ref sig .tc := ⟨.hbm, 369, rfl⟩
abbrev main_v251 : Ref sig .tc := ⟨.hbm, 370, rfl⟩
abbrev main_v252 : Ref sig .tc := ⟨.hbm, 371, rfl⟩
abbrev main_cst_70 : Ref sig .tc := ⟨.hbm, 372, rfl⟩
abbrev main_v253 : Ref sig .tc := ⟨.hbm, 373, rfl⟩
abbrev main_v254 : Ref sig .tc := ⟨.hbm, 374, rfl⟩
abbrev main_v255 : Ref sig .tc := ⟨.hbm, 375, rfl⟩
abbrev main_v256 : Ref sig .tc := ⟨.hbm, 376, rfl⟩
abbrev main_v257 : Ref sig .tc := ⟨.hbm, 377, rfl⟩
abbrev main_v258 : Ref sig .tc := ⟨.hbm, 378, rfl⟩
abbrev main_v259 : Ref sig .tc := ⟨.hbm, 379, rfl⟩
abbrev main_cst_71 : Ref sig .tc := ⟨.hbm, 380, rfl⟩
abbrev main_v260 : Ref sig .tc := ⟨.hbm, 381, rfl⟩
abbrev main_v261 : Ref sig .tc := ⟨.hbm, 382, rfl⟩
abbrev main_c_72 : Ref sig .tc := ⟨.hbm, 383, rfl⟩
abbrev main_v262 : Ref sig .tc := ⟨.hbm, 384, rfl⟩
abbrev main_v263 : Ref sig .tc := ⟨.hbm, 385, rfl⟩
abbrev main_v264 : Ref sig .tc := ⟨.hbm, 386, rfl⟩
abbrev main_v265 : Ref sig .tc := ⟨.hbm, 387, rfl⟩
abbrev main_v266 : Ref sig .tc := ⟨.hbm, 388, rfl⟩
abbrev main_v267 : Ref sig .tc := ⟨.hbm, 389, rfl⟩
abbrev main_c_73 : Ref sig .tc := ⟨.hbm, 390, rfl⟩
abbrev main_v268 : Ref sig .tc := ⟨.hbm, 391, rfl⟩
abbrev main_v269 : Ref sig .tc := ⟨.hbm, 392, rfl⟩
abbrev main_v270 : Ref sig .tc := ⟨.hbm, 393, rfl⟩
abbrev main_cst_74 : Ref sig .tc := ⟨.hbm, 394, rfl⟩
abbrev main_v271 : Ref sig .tc := ⟨.hbm, 395, rfl⟩
abbrev main_v272 : Ref sig .tc := ⟨.hbm, 396, rfl⟩
abbrev main_v273 : Ref sig .tc := ⟨.hbm, 397, rfl⟩
abbrev main_cst_75 : Ref sig .tc := ⟨.hbm, 398, rfl⟩
abbrev main_v274 : Ref sig .tc := ⟨.hbm, 399, rfl⟩
abbrev main_v275 : Ref sig .tc := ⟨.hbm, 400, rfl⟩
abbrev main_v276 : Ref sig .tc := ⟨.hbm, 401, rfl⟩
abbrev main_v277 : Ref sig .tc := ⟨.hbm, 402, rfl⟩
abbrev main_c_76 : Ref sig .tc := ⟨.hbm, 403, rfl⟩
abbrev main_v278 : Ref sig .tc := ⟨.hbm, 404, rfl⟩
abbrev main_v279 : Ref sig .tc := ⟨.hbm, 405, rfl⟩
abbrev main_c_77 : Ref sig .tc := ⟨.hbm, 406, rfl⟩
abbrev main_call7_v0 : Ref sig .tc := ⟨.hbm, 407, rfl⟩
abbrev main_call7_v1 : Ref sig .tc := ⟨.hbm, 408, rfl⟩
abbrev main_call7_v2 : Ref sig .tc := ⟨.hbm, 409, rfl⟩
abbrev main_v280 : Ref sig .tc := ⟨.hbm, 410, rfl⟩
abbrev main_v281 : Ref sig .tc := ⟨.hbm, 411, rfl⟩
abbrev main_v282 : Ref sig .tc := ⟨.hbm, 412, rfl⟩
abbrev main_c_78 : Ref sig .tc := ⟨.hbm, 413, rfl⟩
abbrev main_call8_v0 : Ref sig .tc := ⟨.hbm, 414, rfl⟩
abbrev main_call8_v1 : Ref sig .tc := ⟨.hbm, 415, rfl⟩
abbrev main_call8_v2 : Ref sig .tc := ⟨.hbm, 416, rfl⟩
abbrev main_call8_v3 : Ref sig .tc := ⟨.hbm, 417, rfl⟩
abbrev main_call8_v4 : Ref sig .tc := ⟨.hbm, 418, rfl⟩
abbrev main_call8_v5 : Ref sig .tc := ⟨.hbm, 419, rfl⟩
abbrev main_call8_v6 : Ref sig .tc := ⟨.hbm, 420, rfl⟩
abbrev main_call8_v7 : Ref sig .tc := ⟨.hbm, 421, rfl⟩
abbrev main_call8_v8 : Ref sig .tc := ⟨.hbm, 422, rfl⟩
abbrev main_call8_c : Ref sig .tc := ⟨.hbm, 423, rfl⟩
abbrev main_call8_v9 : Ref sig .tc := ⟨.hbm, 424, rfl⟩
abbrev main_call8_v10 : Ref sig .tc := ⟨.hbm, 425, rfl⟩
abbrev main_call8_v11 : Ref sig .tc := ⟨.hbm, 426, rfl⟩
abbrev main_call8_c_0 : Ref sig .tc := ⟨.hbm, 427, rfl⟩
abbrev main_call8_v12 : Ref sig .tc := ⟨.hbm, 428, rfl⟩
abbrev main_call8_v13 : Ref sig .tc := ⟨.hbm, 429, rfl⟩
abbrev main_v283 : Ref sig .tc := ⟨.hbm, 430, rfl⟩
abbrev main_c_79 : Ref sig .tc := ⟨.hbm, 431, rfl⟩
abbrev main_v284 : Ref sig .tc := ⟨.hbm, 432, rfl⟩
abbrev main_v285 : Ref sig .tc := ⟨.hbm, 433, rfl⟩
abbrev main_v286 : Ref sig .tc := ⟨.hbm, 434, rfl⟩
abbrev main_v287 : Ref sig .tc := ⟨.hbm, 435, rfl⟩
abbrev main_v288 : Ref sig .tc := ⟨.hbm, 436, rfl⟩
abbrev main_c_80 : Ref sig .tc := ⟨.hbm, 437, rfl⟩
abbrev main_v289 : Ref sig .tc := ⟨.hbm, 438, rfl⟩
abbrev main_v290 : Ref sig .tc := ⟨.hbm, 439, rfl⟩
abbrev main_v291 : Ref sig .tc := ⟨.hbm, 440, rfl⟩
abbrev main_cst_81 : Ref sig .tc := ⟨.hbm, 441, rfl⟩
abbrev main_v292 : Ref sig .tc := ⟨.hbm, 442, rfl⟩
abbrev main_v293 : Ref sig .tc := ⟨.hbm, 443, rfl⟩
abbrev main_v294 : Ref sig .tc := ⟨.hbm, 444, rfl⟩
abbrev main_cst_82 : Ref sig .tc := ⟨.hbm, 445, rfl⟩
abbrev main_v295 : Ref sig .tc := ⟨.hbm, 446, rfl⟩
abbrev main_v296 : Ref sig .tc := ⟨.hbm, 447, rfl⟩
abbrev main_v297 : Ref sig .tc := ⟨.hbm, 448, rfl⟩
abbrev main_v298 : Ref sig .tc := ⟨.hbm, 449, rfl⟩
abbrev main_c_83 : Ref sig .tc := ⟨.hbm, 450, rfl⟩
abbrev main_v299 : Ref sig .tc := ⟨.hbm, 451, rfl⟩
abbrev main_v300 : Ref sig .tc := ⟨.hbm, 452, rfl⟩
abbrev main_c_84 : Ref sig .tc := ⟨.hbm, 453, rfl⟩
abbrev main_call9_v0 : Ref sig .tc := ⟨.hbm, 454, rfl⟩
abbrev main_call9_v1 : Ref sig .tc := ⟨.hbm, 455, rfl⟩
abbrev main_v301 : Ref sig .tc := ⟨.hbm, 456, rfl⟩
abbrev main_c_85 : Ref sig .tc := ⟨.hbm, 457, rfl⟩
abbrev main_v302 : Ref sig .tc := ⟨.hbm, 458, rfl⟩
abbrev main_v303 : Ref sig .tc := ⟨.hbm, 459, rfl⟩
abbrev main_v304 : Ref sig .tc := ⟨.hbm, 460, rfl⟩
abbrev main_v305 : Ref sig .tc := ⟨.hbm, 461, rfl⟩
abbrev main_v306 : Ref sig .tc := ⟨.hbm, 462, rfl⟩
abbrev main_c_86 : Ref sig .tc := ⟨.hbm, 463, rfl⟩
abbrev main_v307 : Ref sig .tc := ⟨.hbm, 464, rfl⟩
abbrev main_v308 : Ref sig .tc := ⟨.hbm, 465, rfl⟩
abbrev main_v309 : Ref sig .tc := ⟨.hbm, 466, rfl⟩
abbrev main_cst_87 : Ref sig .tc := ⟨.hbm, 467, rfl⟩
abbrev main_v310 : Ref sig .tc := ⟨.hbm, 468, rfl⟩
abbrev main_v311 : Ref sig .tc := ⟨.hbm, 469, rfl⟩
abbrev main_v312 : Ref sig .tc := ⟨.hbm, 470, rfl⟩
abbrev main_cst_88 : Ref sig .tc := ⟨.hbm, 471, rfl⟩
abbrev main_v313 : Ref sig .tc := ⟨.hbm, 472, rfl⟩
abbrev main_v314 : Ref sig .tc := ⟨.hbm, 473, rfl⟩
abbrev main_v315 : Ref sig .tc := ⟨.hbm, 474, rfl⟩
abbrev main_v316 : Ref sig .tc := ⟨.hbm, 475, rfl⟩
abbrev main_c_89 : Ref sig .tc := ⟨.hbm, 476, rfl⟩
abbrev main_v317 : Ref sig .tc := ⟨.hbm, 477, rfl⟩
abbrev main_v318 : Ref sig .tc := ⟨.hbm, 478, rfl⟩
abbrev main_c_90 : Ref sig .tc := ⟨.hbm, 479, rfl⟩
abbrev main_call10_v0 : Ref sig .tc := ⟨.hbm, 480, rfl⟩
abbrev main_call10_v1 : Ref sig .tc := ⟨.hbm, 481, rfl⟩
abbrev main_v319 : Ref sig .tc := ⟨.hbm, 482, rfl⟩
abbrev main_v320 : Ref sig .tc := ⟨.hbm, 483, rfl⟩
abbrev main_c_91 : Ref sig .tc := ⟨.hbm, 484, rfl⟩
abbrev main_v321 : Ref sig .tc := ⟨.hbm, 485, rfl⟩
abbrev main_v322 : Ref sig .tc := ⟨.hbm, 486, rfl⟩
abbrev main_c_92 : Ref sig .tc := ⟨.hbm, 487, rfl⟩
abbrev main_v323 : Ref sig .tc := ⟨.hbm, 488, rfl⟩
abbrev main_v324 : Ref sig .tc := ⟨.hbm, 489, rfl⟩
abbrev main_v325 : Ref sig .tc := ⟨.hbm, 490, rfl⟩
abbrev main_v326 : Ref sig .tc := ⟨.hbm, 491, rfl⟩
abbrev main_v327 : Ref sig .tc := ⟨.hbm, 492, rfl⟩
abbrev main_c_93 : Ref sig .tc := ⟨.hbm, 493, rfl⟩
abbrev main_v328 : Ref sig .tc := ⟨.hbm, 494, rfl⟩
abbrev main_v329 : Ref sig .tc := ⟨.hbm, 495, rfl⟩
abbrev main_c_94 : Ref sig .tc := ⟨.hbm, 496, rfl⟩
abbrev main_v330 : Ref sig .tc := ⟨.hbm, 497, rfl⟩
abbrev main_v331 : Ref sig .tc := ⟨.hbm, 498, rfl⟩
abbrev main_v332 : Ref sig .tc := ⟨.hbm, 499, rfl⟩
abbrev main_v333 : Ref sig .tc := ⟨.hbm, 500, rfl⟩
abbrev main_v334 : Ref sig .tc := ⟨.hbm, 501, rfl⟩
abbrev main_v335 : Ref sig .tc := ⟨.hbm, 502, rfl⟩
abbrev main_cst_95 : Ref sig .tc := ⟨.hbm, 503, rfl⟩
abbrev main_v336 : Ref sig .tc := ⟨.hbm, 504, rfl⟩
abbrev main_v337 : Ref sig .tc := ⟨.hbm, 505, rfl⟩
abbrev main_v338 : Ref sig .tc := ⟨.hbm, 506, rfl⟩
abbrev main_cst_96 : Ref sig .tc := ⟨.hbm, 507, rfl⟩
abbrev main_v339 : Ref sig .tc := ⟨.hbm, 508, rfl⟩
abbrev main_cst_97 : Ref sig .tc := ⟨.hbm, 509, rfl⟩
abbrev main_v340 : Ref sig .tc := ⟨.hbm, 510, rfl⟩
abbrev main_v341 : Ref sig .tc := ⟨.hbm, 511, rfl⟩
abbrev main_v342 : Ref sig .tc := ⟨.hbm, 512, rfl⟩
abbrev main_v343 : Ref sig .tc := ⟨.hbm, 513, rfl⟩
abbrev main_v344 : Ref sig .tc := ⟨.hbm, 514, rfl⟩
abbrev main_cst_98 : Ref sig .tc := ⟨.hbm, 515, rfl⟩
abbrev main_v345 : Ref sig .tc := ⟨.hbm, 516, rfl⟩
abbrev main_v346 : Ref sig .tc := ⟨.hbm, 517, rfl⟩
abbrev main_v347 : Ref sig .tc := ⟨.hbm, 518, rfl⟩
abbrev main_v348 : Ref sig .tc := ⟨.hbm, 519, rfl⟩
abbrev main_v349 : Ref sig .tc := ⟨.hbm, 520, rfl⟩
abbrev main_c_99 : Ref sig .tc := ⟨.hbm, 521, rfl⟩
abbrev main_v350 : Ref sig .tc := ⟨.hbm, 522, rfl⟩
abbrev main_v351 : Ref sig .tc := ⟨.hbm, 523, rfl⟩
abbrev main_c_100 : Ref sig .tc := ⟨.hbm, 524, rfl⟩
abbrev main_v352 : Ref sig .tc := ⟨.hbm, 525, rfl⟩
abbrev main_v353 : Ref sig .tc := ⟨.hbm, 526, rfl⟩
abbrev main_v354 : Ref sig .tc := ⟨.hbm, 527, rfl⟩
abbrev main_v355 : Ref sig .tc := ⟨.hbm, 528, rfl⟩
abbrev main_v356 : Ref sig .tc := ⟨.hbm, 529, rfl⟩
abbrev main_c_101 : Ref sig .tc := ⟨.hbm, 530, rfl⟩
abbrev main_v357 : Ref sig .tc := ⟨.hbm, 531, rfl⟩
abbrev main_v358 : Ref sig .tc := ⟨.hbm, 532, rfl⟩
abbrev main_c_102 : Ref sig .tc := ⟨.hbm, 533, rfl⟩
abbrev main_v359 : Ref sig .tc := ⟨.hbm, 534, rfl⟩
abbrev main_v360 : Ref sig .tc := ⟨.hbm, 535, rfl⟩
abbrev main_v361 : Ref sig .tc := ⟨.hbm, 536, rfl⟩
abbrev main_v362 : Ref sig .tc := ⟨.hbm, 537, rfl⟩
abbrev main_v363 : Ref sig .tc := ⟨.hbm, 538, rfl⟩
abbrev main_v364 : Ref sig .tc := ⟨.hbm, 539, rfl⟩
abbrev main_cst_103 : Ref sig .tc := ⟨.hbm, 540, rfl⟩
abbrev main_v365 : Ref sig .tc := ⟨.hbm, 541, rfl⟩
abbrev main_v366 : Ref sig .tc := ⟨.hbm, 542, rfl⟩
abbrev main_v367 : Ref sig .tc := ⟨.hbm, 543, rfl⟩
abbrev main_cst_104 : Ref sig .tc := ⟨.hbm, 544, rfl⟩
abbrev main_v368 : Ref sig .tc := ⟨.hbm, 545, rfl⟩
abbrev main_cst_105 : Ref sig .tc := ⟨.hbm, 546, rfl⟩
abbrev main_v369 : Ref sig .tc := ⟨.hbm, 547, rfl⟩
abbrev main_v370 : Ref sig .tc := ⟨.hbm, 548, rfl⟩
abbrev main_v371 : Ref sig .tc := ⟨.hbm, 549, rfl⟩
abbrev main_v372 : Ref sig .tc := ⟨.hbm, 550, rfl⟩
abbrev main_v373 : Ref sig .tc := ⟨.hbm, 551, rfl⟩
abbrev main_v374 : Ref sig .tc := ⟨.hbm, 552, rfl⟩
abbrev main_cst_106 : Ref sig .tc := ⟨.hbm, 553, rfl⟩
abbrev main_v375 : Ref sig .tc := ⟨.hbm, 554, rfl⟩
abbrev main_v376 : Ref sig .tc := ⟨.hbm, 555, rfl⟩
abbrev main_v377 : Ref sig .tc := ⟨.hbm, 556, rfl⟩
abbrev main_v378 : Ref sig .tc := ⟨.hbm, 557, rfl⟩
abbrev main_v379 : Ref sig .tc := ⟨.hbm, 558, rfl⟩
abbrev main_v380 : Ref sig .tc := ⟨.hbm, 559, rfl⟩
abbrev main_c_107 : Ref sig .tc := ⟨.hbm, 560, rfl⟩
abbrev main_v381 : Ref sig .tc := ⟨.hbm, 561, rfl⟩
abbrev main_v382 : Ref sig .tc := ⟨.hbm, 562, rfl⟩
abbrev main_c_108 : Ref sig .tc := ⟨.hbm, 563, rfl⟩
abbrev main_v383 : Ref sig .tc := ⟨.hbm, 564, rfl⟩
abbrev main_v384 : Ref sig .tc := ⟨.hbm, 565, rfl⟩
abbrev main_v385 : Ref sig .tc := ⟨.hbm, 566, rfl⟩
abbrev main_v386 : Ref sig .tc := ⟨.hbm, 567, rfl⟩
abbrev main_v387 : Ref sig .tc := ⟨.hbm, 568, rfl⟩
abbrev main_c_109 : Ref sig .tc := ⟨.hbm, 569, rfl⟩
abbrev main_v388 : Ref sig .tc := ⟨.hbm, 570, rfl⟩
abbrev main_v389 : Ref sig .tc := ⟨.hbm, 571, rfl⟩
abbrev main_c_110 : Ref sig .tc := ⟨.hbm, 572, rfl⟩
abbrev main_v390 : Ref sig .tc := ⟨.hbm, 573, rfl⟩
abbrev main_v391 : Ref sig .tc := ⟨.hbm, 574, rfl⟩
abbrev main_v392 : Ref sig .tc := ⟨.hbm, 575, rfl⟩
abbrev main_v393 : Ref sig .tc := ⟨.hbm, 576, rfl⟩
abbrev main_v394 : Ref sig .tc := ⟨.hbm, 577, rfl⟩
abbrev main_v395 : Ref sig .tc := ⟨.hbm, 578, rfl⟩
abbrev main_cst_111 : Ref sig .tc := ⟨.hbm, 579, rfl⟩
abbrev main_v396 : Ref sig .tc := ⟨.hbm, 580, rfl⟩
abbrev main_v397 : Ref sig .tc := ⟨.hbm, 581, rfl⟩
abbrev main_v398 : Ref sig .tc := ⟨.hbm, 582, rfl⟩
abbrev main_cst_112 : Ref sig .tc := ⟨.hbm, 583, rfl⟩
abbrev main_v399 : Ref sig .tc := ⟨.hbm, 584, rfl⟩
abbrev main_cst_113 : Ref sig .tc := ⟨.hbm, 585, rfl⟩
abbrev main_v400 : Ref sig .tc := ⟨.hbm, 586, rfl⟩
abbrev main_v401 : Ref sig .tc := ⟨.hbm, 587, rfl⟩
abbrev main_v402 : Ref sig .tc := ⟨.hbm, 588, rfl⟩
abbrev main_v403 : Ref sig .tc := ⟨.hbm, 589, rfl⟩
abbrev main_v404 : Ref sig .tc := ⟨.hbm, 590, rfl⟩
abbrev main_v405 : Ref sig .tc := ⟨.hbm, 591, rfl⟩
abbrev main_cst_114 : Ref sig .tc := ⟨.hbm, 592, rfl⟩
abbrev main_v406 : Ref sig .tc := ⟨.hbm, 593, rfl⟩
abbrev main_v407 : Ref sig .tc := ⟨.hbm, 594, rfl⟩
abbrev main_v408 : Ref sig .tc := ⟨.hbm, 595, rfl⟩
abbrev main_v409 : Ref sig .tc := ⟨.hbm, 596, rfl⟩
abbrev main_v410 : Ref sig .tc := ⟨.hbm, 597, rfl⟩
abbrev main_v411 : Ref sig .tc := ⟨.hbm, 598, rfl⟩
abbrev main_v412 : Ref sig .tc := ⟨.hbm, 599, rfl⟩
abbrev main_cst_115 : Ref sig .tc := ⟨.hbm, 600, rfl⟩
abbrev main_v413 : Ref sig .tc := ⟨.hbm, 601, rfl⟩
abbrev main_v414 : Ref sig .tc := ⟨.hbm, 602, rfl⟩
abbrev main_c_116 : Ref sig .tc := ⟨.hbm, 603, rfl⟩
abbrev main_v415 : Ref sig .tc := ⟨.hbm, 604, rfl⟩
abbrev main_v416 : Ref sig .tc := ⟨.hbm, 605, rfl⟩
abbrev main_v417 : Ref sig .tc := ⟨.hbm, 606, rfl⟩
abbrev main_v418 : Ref sig .tc := ⟨.hbm, 607, rfl⟩
abbrev main_v419 : Ref sig .tc := ⟨.hbm, 608, rfl⟩
abbrev main_v420 : Ref sig .tc := ⟨.hbm, 609, rfl⟩
abbrev main_c_117 : Ref sig .tc := ⟨.hbm, 610, rfl⟩
abbrev main_call11_v0 : Ref sig .tc := ⟨.hbm, 611, rfl⟩
abbrev main_call11_v1 : Ref sig .tc := ⟨.hbm, 612, rfl⟩
abbrev main_call11_v2 : Ref sig .tc := ⟨.hbm, 613, rfl⟩
abbrev main_call11_v3 : Ref sig .tc := ⟨.hbm, 614, rfl⟩
abbrev main_call11_v4 : Ref sig .tc := ⟨.hbm, 615, rfl⟩
abbrev main_call11_v5 : Ref sig .tc := ⟨.hbm, 616, rfl⟩
abbrev main_call11_v6 : Ref sig .tc := ⟨.hbm, 617, rfl⟩
abbrev main_call11_v7 : Ref sig .tc := ⟨.hbm, 618, rfl⟩
abbrev main_call11_v8 : Ref sig .tc := ⟨.hbm, 619, rfl⟩
abbrev main_call11_c : Ref sig .tc := ⟨.hbm, 620, rfl⟩
abbrev main_call11_v9 : Ref sig .tc := ⟨.hbm, 621, rfl⟩
abbrev main_call11_v10 : Ref sig .tc := ⟨.hbm, 622, rfl⟩
abbrev main_call11_v11 : Ref sig .tc := ⟨.hbm, 623, rfl⟩
abbrev main_call11_c_0 : Ref sig .tc := ⟨.hbm, 624, rfl⟩
abbrev main_call11_v12 : Ref sig .tc := ⟨.hbm, 625, rfl⟩
abbrev main_call11_v13 : Ref sig .tc := ⟨.hbm, 626, rfl⟩
abbrev main_v421 : Ref sig .tc := ⟨.hbm, 627, rfl⟩
abbrev main_c_118 : Ref sig .tc := ⟨.hbm, 628, rfl⟩
abbrev main_v422 : Ref sig .tc := ⟨.hbm, 629, rfl⟩
abbrev main_v423 : Ref sig .tc := ⟨.hbm, 630, rfl⟩
abbrev main_v424 : Ref sig .tc := ⟨.hbm, 631, rfl⟩
abbrev main_v425 : Ref sig .tc := ⟨.hbm, 632, rfl⟩
abbrev main_c_119 : Ref sig .tc := ⟨.hbm, 633, rfl⟩
abbrev main_v426 : Ref sig .tc := ⟨.hbm, 634, rfl⟩
abbrev main_v427 : Ref sig .tc := ⟨.hbm, 635, rfl⟩
abbrev main_v428 : Ref sig .tc := ⟨.hbm, 636, rfl⟩
abbrev main_cst_120 : Ref sig .tc := ⟨.hbm, 637, rfl⟩
abbrev main_v429 : Ref sig .tc := ⟨.hbm, 638, rfl⟩
abbrev main_v430 : Ref sig .tc := ⟨.hbm, 639, rfl⟩
abbrev main_v431 : Ref sig .tc := ⟨.hbm, 640, rfl⟩
abbrev main_cst_121 : Ref sig .tc := ⟨.hbm, 641, rfl⟩
abbrev main_v432 : Ref sig .tc := ⟨.hbm, 642, rfl⟩
abbrev main_v433 : Ref sig .tc := ⟨.hbm, 643, rfl⟩
abbrev main_v434 : Ref sig .tc := ⟨.hbm, 644, rfl⟩
abbrev main_v435 : Ref sig .tc := ⟨.hbm, 645, rfl⟩
abbrev main_c_122 : Ref sig .tc := ⟨.hbm, 646, rfl⟩
abbrev main_v436 : Ref sig .tc := ⟨.hbm, 647, rfl⟩
abbrev main_v437 : Ref sig .tc := ⟨.hbm, 648, rfl⟩
abbrev main_c_123 : Ref sig .tc := ⟨.hbm, 649, rfl⟩
abbrev main_call12_v0 : Ref sig .tc := ⟨.hbm, 650, rfl⟩
abbrev main_call12_v1 : Ref sig .tc := ⟨.hbm, 651, rfl⟩
abbrev main_v438 : Ref sig .tc := ⟨.hbm, 652, rfl⟩
abbrev main_c_124 : Ref sig .tc := ⟨.hbm, 653, rfl⟩
abbrev main_v439 : Ref sig .tc := ⟨.hbm, 654, rfl⟩
abbrev main_v440 : Ref sig .tc := ⟨.hbm, 655, rfl⟩
abbrev main_v441 : Ref sig .tc := ⟨.hbm, 656, rfl⟩
abbrev main_v442 : Ref sig .tc := ⟨.hbm, 657, rfl⟩
abbrev main_c_125 : Ref sig .tc := ⟨.hbm, 658, rfl⟩
abbrev main_v443 : Ref sig .tc := ⟨.hbm, 659, rfl⟩
abbrev main_v444 : Ref sig .tc := ⟨.hbm, 660, rfl⟩
abbrev main_v445 : Ref sig .tc := ⟨.hbm, 661, rfl⟩
abbrev main_cst_126 : Ref sig .tc := ⟨.hbm, 662, rfl⟩
abbrev main_v446 : Ref sig .tc := ⟨.hbm, 663, rfl⟩
abbrev main_v447 : Ref sig .tc := ⟨.hbm, 664, rfl⟩
abbrev main_v448 : Ref sig .tc := ⟨.hbm, 665, rfl⟩
abbrev main_cst_127 : Ref sig .tc := ⟨.hbm, 666, rfl⟩
abbrev main_v449 : Ref sig .tc := ⟨.hbm, 667, rfl⟩
abbrev main_v450 : Ref sig .tc := ⟨.hbm, 668, rfl⟩
abbrev main_v451 : Ref sig .tc := ⟨.hbm, 669, rfl⟩
abbrev main_v452 : Ref sig .tc := ⟨.hbm, 670, rfl⟩
abbrev main_c_128 : Ref sig .tc := ⟨.hbm, 671, rfl⟩
abbrev main_v453 : Ref sig .tc := ⟨.hbm, 672, rfl⟩
abbrev main_v454 : Ref sig .tc := ⟨.hbm, 673, rfl⟩
abbrev main_c_129 : Ref sig .tc := ⟨.hbm, 674, rfl⟩
abbrev main_call13_v0 : Ref sig .tc := ⟨.hbm, 675, rfl⟩
abbrev main_call13_v1 : Ref sig .tc := ⟨.hbm, 676, rfl⟩
abbrev main_v455 : Ref sig .tc := ⟨.hbm, 677, rfl⟩
abbrev main_v456 : Ref sig .tc := ⟨.hbm, 678, rfl⟩
abbrev main_c_130 : Ref sig .tc := ⟨.hbm, 679, rfl⟩
abbrev main_v457 : Ref sig .tc := ⟨.hbm, 680, rfl⟩
abbrev main_v458 : Ref sig .tc := ⟨.hbm, 681, rfl⟩
abbrev main_c_131 : Ref sig .tc := ⟨.hbm, 682, rfl⟩
abbrev main_v459 : Ref sig .tc := ⟨.hbm, 683, rfl⟩
abbrev main_v460 : Ref sig .tc := ⟨.hbm, 684, rfl⟩
abbrev main_v461 : Ref sig .tc := ⟨.hbm, 685, rfl⟩
abbrev main_v462 : Ref sig .tc := ⟨.hbm, 686, rfl⟩
abbrev main_v463 : Ref sig .tc := ⟨.hbm, 687, rfl⟩
abbrev main_c_132 : Ref sig .tc := ⟨.hbm, 688, rfl⟩
abbrev main_v464 : Ref sig .tc := ⟨.hbm, 689, rfl⟩
abbrev main_v465 : Ref sig .tc := ⟨.hbm, 690, rfl⟩
abbrev main_c_133 : Ref sig .tc := ⟨.hbm, 691, rfl⟩
abbrev main_v466 : Ref sig .tc := ⟨.hbm, 692, rfl⟩
abbrev main_v467 : Ref sig .tc := ⟨.hbm, 693, rfl⟩
abbrev main_v468 : Ref sig .tc := ⟨.hbm, 694, rfl⟩
abbrev main_v469 : Ref sig .tc := ⟨.hbm, 695, rfl⟩
abbrev main_v470 : Ref sig .tc := ⟨.hbm, 696, rfl⟩
abbrev main_v471 : Ref sig .tc := ⟨.hbm, 697, rfl⟩
abbrev main_cst_134 : Ref sig .tc := ⟨.hbm, 698, rfl⟩
abbrev main_v472 : Ref sig .tc := ⟨.hbm, 699, rfl⟩
abbrev main_v473 : Ref sig .tc := ⟨.hbm, 700, rfl⟩
abbrev main_v474 : Ref sig .tc := ⟨.hbm, 701, rfl⟩
abbrev main_cst_135 : Ref sig .tc := ⟨.hbm, 702, rfl⟩
abbrev main_v475 : Ref sig .tc := ⟨.hbm, 703, rfl⟩
abbrev main_cst_136 : Ref sig .tc := ⟨.hbm, 704, rfl⟩
abbrev main_v476 : Ref sig .tc := ⟨.hbm, 705, rfl⟩
abbrev main_v477 : Ref sig .tc := ⟨.hbm, 706, rfl⟩
abbrev main_v478 : Ref sig .tc := ⟨.hbm, 707, rfl⟩
abbrev main_v479 : Ref sig .tc := ⟨.hbm, 708, rfl⟩
abbrev main_v480 : Ref sig .tc := ⟨.hbm, 709, rfl⟩
abbrev main_v481 : Ref sig .tc := ⟨.hbm, 710, rfl⟩
abbrev main_cst_137 : Ref sig .tc := ⟨.hbm, 711, rfl⟩
abbrev main_v482 : Ref sig .tc := ⟨.hbm, 712, rfl⟩
abbrev main_v483 : Ref sig .tc := ⟨.hbm, 713, rfl⟩
abbrev main_v484 : Ref sig .tc := ⟨.hbm, 714, rfl⟩
abbrev main_v485 : Ref sig .tc := ⟨.hbm, 715, rfl⟩
abbrev main_v486 : Ref sig .tc := ⟨.hbm, 716, rfl⟩
abbrev main_v487 : Ref sig .tc := ⟨.hbm, 717, rfl⟩
abbrev main_c_138 : Ref sig .tc := ⟨.hbm, 718, rfl⟩
abbrev main_v488 : Ref sig .tc := ⟨.hbm, 719, rfl⟩
abbrev main_v489 : Ref sig .tc := ⟨.hbm, 720, rfl⟩
abbrev main_c_139 : Ref sig .tc := ⟨.hbm, 721, rfl⟩
abbrev main_v490 : Ref sig .tc := ⟨.hbm, 722, rfl⟩
abbrev main_v491 : Ref sig .tc := ⟨.hbm, 723, rfl⟩
abbrev main_v492 : Ref sig .tc := ⟨.hbm, 724, rfl⟩
abbrev main_v493 : Ref sig .tc := ⟨.hbm, 725, rfl⟩
abbrev main_v494 : Ref sig .tc := ⟨.hbm, 726, rfl⟩
abbrev main_c_140 : Ref sig .tc := ⟨.hbm, 727, rfl⟩
abbrev main_v495 : Ref sig .tc := ⟨.hbm, 728, rfl⟩
abbrev main_v496 : Ref sig .tc := ⟨.hbm, 729, rfl⟩
abbrev main_c_141 : Ref sig .tc := ⟨.hbm, 730, rfl⟩
abbrev main_v497 : Ref sig .tc := ⟨.hbm, 731, rfl⟩
abbrev main_v498 : Ref sig .tc := ⟨.hbm, 732, rfl⟩
abbrev main_v499 : Ref sig .tc := ⟨.hbm, 733, rfl⟩
abbrev main_v500 : Ref sig .tc := ⟨.hbm, 734, rfl⟩
abbrev main_v501 : Ref sig .tc := ⟨.hbm, 735, rfl⟩
abbrev main_v502 : Ref sig .tc := ⟨.hbm, 736, rfl⟩
abbrev main_cst_142 : Ref sig .tc := ⟨.hbm, 737, rfl⟩
abbrev main_v503 : Ref sig .tc := ⟨.hbm, 738, rfl⟩
abbrev main_v504 : Ref sig .tc := ⟨.hbm, 739, rfl⟩
abbrev main_v505 : Ref sig .tc := ⟨.hbm, 740, rfl⟩
abbrev main_cst_143 : Ref sig .tc := ⟨.hbm, 741, rfl⟩
abbrev main_v506 : Ref sig .tc := ⟨.hbm, 742, rfl⟩
abbrev main_cst_144 : Ref sig .tc := ⟨.hbm, 743, rfl⟩
abbrev main_v507 : Ref sig .tc := ⟨.hbm, 744, rfl⟩
abbrev main_v508 : Ref sig .tc := ⟨.hbm, 745, rfl⟩
abbrev main_v509 : Ref sig .tc := ⟨.hbm, 746, rfl⟩
abbrev main_v510 : Ref sig .tc := ⟨.hbm, 747, rfl⟩
abbrev main_v511 : Ref sig .tc := ⟨.hbm, 748, rfl⟩
abbrev main_v512 : Ref sig .tc := ⟨.hbm, 749, rfl⟩
abbrev main_cst_145 : Ref sig .tc := ⟨.hbm, 750, rfl⟩
abbrev main_v513 : Ref sig .tc := ⟨.hbm, 751, rfl⟩
abbrev main_v514 : Ref sig .tc := ⟨.hbm, 752, rfl⟩
abbrev main_v515 : Ref sig .tc := ⟨.hbm, 753, rfl⟩
abbrev main_v516 : Ref sig .tc := ⟨.hbm, 754, rfl⟩
abbrev main_v517 : Ref sig .tc := ⟨.hbm, 755, rfl⟩
abbrev main_cst_146 : Ref sig .tc := ⟨.hbm, 756, rfl⟩
abbrev main_v518 : Ref sig .tc := ⟨.hbm, 757, rfl⟩
abbrev main_v519 : Ref sig .tc := ⟨.hbm, 758, rfl⟩
abbrev main_v520 : Ref sig .tc := ⟨.hbm, 759, rfl⟩
abbrev main_cst_147 : Ref sig .tc := ⟨.hbm, 760, rfl⟩
abbrev main_v521 : Ref sig .tc := ⟨.hbm, 761, rfl⟩
abbrev main_v522 : Ref sig .tc := ⟨.hbm, 762, rfl⟩
abbrev main_c_148 : Ref sig .tc := ⟨.hbm, 763, rfl⟩
abbrev main_v523 : Ref sig .tc := ⟨.hbm, 764, rfl⟩
abbrev main_v524 : Ref sig .tc := ⟨.hbm, 765, rfl⟩

abbrev nD : Nat := 1
abbrev τ : Topo := Topo.v7x

variable {F : FTy → Type} [FloatOps F]
-- ==== Proof.Frames.lean ====
/- What the programs leave alone, and what renaming the constants preserves: the claims of the certificate that name
   no result. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel terminates, leaves its arguments as they were and every semaphore at zero. -/
theorem frameKernel : Cert.quiescent_Kernel := fun m ρ _ =>
  Cert.Kernel.Gen.frame (F := Bits) m ρ

/-- So does the kernel over the extended reals. -/
theorem frameKernelIdeal (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
        ∧ r.2.sem = fun _ => 0) :=
  Cert.KernelIdeal.Gen.frame (F := Ideal) m ρ

/-- The reference declares no semaphore and writes no argument. -/
theorem frameReferenceIdeal (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2,
      sem_eq_zero_of_no_sems (by decide) r.2⟩)
    (Cert.ReferenceIdeal.Value.run (F := Ideal) m ρ)

/-- The two named constants: the scale `log₂ e / √128` and the mask's `−∞`. -/
theorem constants : Cert.preserves_Kernel_KernelIdeal :=
  ⟨IdealRules.named_const.statement Cert.KernelIdeal.κ "c2" .f32 0x3E0293EE#32 _ rfl,
   IdealRules.named_const.statement Cert.KernelIdeal.κ "mask" .f32 0xF149F2CA#32 _ rfl⟩

end Cert.Proof

end
-- ==== Proof.KernelOps.lean ====
/- What the kernel's body computes of one head, level by level, over that head's queries, keys and values as [585, 128]
   arrays: the same operations for each of the four heads of a block, under names. -/
module

public import proofs.«01_k».proof.Proof.Gen.KernelIdeal.Skeleton

@[expose] public section

set_option maxRecDepth 16384

noncomputable section

namespace Tree.Kernel

open Idealize.ShloMosaic Cert.KernelIdeal Cert.KernelIdeal.Gen

variable {F : FTy → Type} [FloatOps F] [Named F]

/-- The factor of a score inside `exp2`. -/
def c2 : F .f32 := Named.named κ "c2" 0x3E0293EE#32
/-- What a masked score is replaced by. -/
def masked : F .f32 := Named.named κ "mask" 0xF149F2CA#32
/-- The divisor of the three means. -/
def three : F .f32 := Scalar.ofBits .f32 0x40400000#32
/-- How many of a node's eight children are the sink. -/
def seven : F .f32 := Scalar.ofBits .f32 0x40E00000#32

/-- Level 0: which of the 64 nodes above a leaf sees. -/
def maskA0 : IVec S512x64 1 := k0_pay2
/-- Level 0: how many of the 64 it does not. -/
def cntA0 : FVec F S512x1 .f32 := k0_pay7 k0_pay4 k0_pay5 k0_pay6 0#32
/-- Level 1: which of the 8 nodes above a node sees. -/
def maskA1 : IVec S64x8 1 := k0_pay8
/-- Level 1: how many of the 8 it does not. -/
def cntA1 : FVec F S64x1 .f32 := k0_pay12 k0_pay9 8#32 k0_pay10 k0_pay11 (Scalar.cmpi .sgt 8#32 0#32)
/-- Which of its eight siblings a node sees, group by group. -/
def maskS : IVec S64x8x8 1 := k0_pay13
/-- How many it does not. -/
def cntS : FVec F S64x8x1 .f32 := k0_pay14

/-- A head's rows out of a block of one head. -/
def rows (x : Vec F S1x585x128 .f32) : FVec F S585x128 .f32 := shapeCast S585x128 x shapeCasts_S1x585x128_S585x128

variable (q k v : FVec F S585x128 .f32)

/-- The sink's row. -/
def sink (x : FVec F S585x128 .f32) : FVec F S1x128 .f32 := extractStridedSlice S1x128 ![0, 0] x slices_S585x128_o0_0_S1x128

/-! ### Level 0: the 512 leaves -/

def q0 : FVec F S512x128 .f32 := extractStridedSlice S512x128 ![0, 0] q slices_S585x128_o0_0_S512x128
def nodes1 (x : FVec F S585x128 .f32) : FVec F S64x128 .f32 := extractStridedSlice S64x128 ![512, 0] x slices_S585x128_o512_0_S64x128
def nodes2 (x : FVec F S585x128 .f32) : FVec F S8x128 .f32 := extractStridedSlice S8x128 ![576, 0] x slices_S585x128_o576_0_S8x128
def root (x : FVec F S585x128 .f32) : FVec F S1x128 .f32 := extractStridedSlice S1x128 ![584, 0] x slices_S585x128_o584_0_S1x128

/-- The sink's weight at each leaf. -/
def exp0 : FVec F S512x1 .f32 :=
  exp2 (mulf (shapeCast S512x1 (multiReduction .add [1] S512 (mulf (q0 q) (broadcastTo S512x128 (sink k) broadcasts_S1x128_S512x128))
    0x00000000#32 reduces_S512x128_S512 (.inl rfl) rfl) shapeCasts_S512_S512x1) (broadcast S512x1 c2))

/-- The weights of the nodes above. -/
def wA0 : FVec F S512x64 .f32 :=
  exp2 (mulf (select maskA0 (matmul dot_S512x128_S64x128_S512x64_1_1_0_0_n_n none (q0 q) (nodes1 k) (constant S512x64 .f32 0x00000000#32))
    (broadcast S512x64 masked)) (broadcast S512x64 c2))

/-- The mean over the nodes above. -/
def anc0 : FVec F S512x128 .f32 :=
  divf (addf (matmul dot_S512x64_S64x128_S512x128_1_0_0_1_n_n none (wA0 q k) (nodes1 v) (constant S512x128 .f32 0x00000000#32))
      (mulf (broadcastTo S512x128 (mulf cntA0 (exp0 q k)) broadcasts_S512x1_S512x128) (broadcastTo S512x128 (sink v) broadcasts_S1x128_S512x128)))
    (broadcastTo S512x128 (addf (shapeCast S512x1 (multiReduction .add [1] S512 (wA0 q k) 0x00000000#32 reduces_S512x64_S512 (.inl rfl) rfl)
      shapeCasts_S512_S512x1) (mulf cntA0 (exp0 q k))) broadcasts_S512x1_S512x128)

/-- The weights of the siblings. -/
def wS0 : FVec F S64x8x8 .f32 :=
  exp2 (mulf (select maskS (matmul dot_S64x8x128_S64x8x128_S64x8x8_2_2_1_1_0_0 none (shapeCast S64x8x128 (q0 q) shapeCasts_S512x128_S64x8x128)
    (shapeCast S64x8x128 (q0 k) shapeCasts_S512x128_S64x8x128) (constant S64x8x8 .f32 0x00000000#32))
    (broadcast S64x8x8 masked)) (broadcast S64x8x8 c2))

/-- The sink's weight among the siblings, times its number. -/
def eS0 : FVec F S64x8x1 .f32 := mulf cntS (shapeCast S64x8x1 (exp0 q k) shapeCasts_S512x1_S64x8x1)

/-- The mean over the siblings. -/
def sib0 : FVec F S512x128 .f32 :=
  shapeCast S512x128
    (divf (addf (matmul dot_S64x8x8_S64x8x128_S64x8x128_2_1_1_2_0_0 none (wS0 q k) (shapeCast S64x8x128 (q0 v) shapeCasts_S512x128_S64x8x128)
          (constant S64x8x128 .f32 0x00000000#32))
        (mulf (broadcastTo S64x8x128 (eS0 q k) broadcasts_S64x8x1_S64x8x128)
          (broadcastTo S64x8x128 (shapeCast S1x1x128 (sink v) shapeCasts_S1x128_S1x1x128) broadcasts_S1x1x128_S64x8x128)))
      (broadcastTo S64x8x128 (addf (shapeCast S64x8x1 (multiReduction .add [2] S64x8 (wS0 q k) 0x00000000#32 reduces_S64x8x8_S64x8 (.inl rfl) rfl)
        shapeCasts_S64x8_S64x8x1) (eS0 q k)) broadcasts_S64x8x1_S64x8x128))
    shapeCasts_S64x8x128_S512x128

/-- The leaves' new values. -/
def out0 : FVec F S512x128 .f32 := divf (addf (anc0 q k v) (sib0 q k v)) (broadcast S512x128 three)

/-! ### Level 1: the 64 nodes above the leaves, `o` being the leaves' new values -/

variable (o : FVec F S512x128 .f32)

/-- The sink's new value. -/
def sinkOut : FVec F S1x128 .f32 := extractStridedSlice S1x128 ![0, 0] o slices_S512x128_o0_0_S1x128

/-- The first of every eight leaves. -/
def heads0 (x : FVec F S512x128 .f32) : FVec F S64x128 .f32 :=
  shapeCast S64x128 (extractStridedSlice S64x1x128 ![0, 0, 0] (shapeCast S64x8x128 x shapeCasts_S512x128_S64x8x128)
    slices_S64x8x128_o0_0_0_S64x1x128) shapeCasts_S64x1x128_S64x128

/-- The first of every eight nodes of level 1. -/
def heads1 (x : FVec F S64x128 .f32) : FVec F S8x128 .f32 :=
  shapeCast S8x128 (extractStridedSlice S8x1x128 ![0, 0, 0] (shapeCast S8x8x128 x shapeCasts_S64x128_S8x8x128)
    slices_S8x8x128_o0_0_0_S8x1x128) shapeCasts_S8x1x128_S8x128

/-- The sink's weight at each node. -/
def exp1 : FVec F S64x1 .f32 :=
  exp2 (mulf (shapeCast S64x1 (multiReduction .add [1] S64 (mulf (nodes1 q) (broadcastTo S64x128 (sink k) broadcasts_S1x128_S64x128))
    0x00000000#32 reduces_S64x128_S64 (.inl rfl) rfl) shapeCasts_S64_S64x1) (broadcast S64x1 c2))

/-- The weights of the nodes above. -/
def wA1 : FVec F S64x8 .f32 :=
  exp2 (mulf (select maskA1 (matmul dot_S64x128_S8x128_S64x8_1_1_0_0_n_n none (nodes1 q) (nodes2 k) (constant S64x8 .f32 0x00000000#32))
    (broadcast S64x8 masked)) (broadcast S64x8 c2))

/-- The mean over the nodes above. -/
def anc1 : FVec F S64x128 .f32 :=
  divf (addf (matmul dot_S64x8_S8x128_S64x128_1_0_0_1_n_n none (wA1 q k) (nodes2 v) (constant S64x128 .f32 0x00000000#32))
      (mulf (broadcastTo S64x128 (mulf cntA1 (exp1 q k)) broadcasts_S64x1_S64x128) (broadcastTo S64x128 (sinkOut o) broadcasts_S1x128_S64x128)))
    (broadcastTo S64x128 (addf (shapeCast S64x1 (multiReduction .add [1] S64 (wA1 q k) 0x00000000#32 reduces_S64x8_S64 (.inl rfl) rfl)
      shapeCasts_S64_S64x1) (mulf cntA1 (exp1 q k))) broadcasts_S64x1_S64x128)

/-- The weights of the siblings. -/
def wS1 : FVec F S8x8x8 .f32 :=
  exp2 (mulf (select (extractStridedSlice S8x8x8 ![0, 0, 0] maskS slices_S64x8x8_o0_0_0_S8x8x8)
    (matmul dot_S8x8x128_S8x8x128_S8x8x8_2_2_1_1_0_0 none (shapeCast S8x8x128 (nodes1 q) shapeCasts_S64x128_S8x8x128)
      (shapeCast S8x8x128 (nodes1 k) shapeCasts_S64x128_S8x8x128) (constant S8x8x8 .f32 0x00000000#32))
    (broadcast S8x8x8 masked)) (broadcast S8x8x8 c2))

/-- The sink's weight among the siblings, times its number. -/
def eS1 : FVec F S8x8x1 .f32 :=
  mulf (extractStridedSlice S8x8x1 ![0, 0, 0] cntS slices_S64x8x1_o0_0_0_S8x8x1) (shapeCast S8x8x1 (exp1 q k) shapeCasts_S64x1_S8x8x1)

/-- The mean over the siblings. -/
def sib1 : FVec F S64x128 .f32 :=
  shapeCast S64x128
    (divf (addf (matmul dot_S8x8x8_S8x8x128_S8x8x128_2_1_1_2_0_0 none (wS1 q k) (shapeCast S8x8x128 (nodes1 v) shapeCasts_S64x128_S8x8x128)
          (constant S8x8x128 .f32 0x00000000#32))
        (mulf (broadcastTo S8x8x128 (eS1 q k) broadcasts_S8x8x1_S8x8x128)
          (broadcastTo S8x8x128 (shapeCast S1x1x128 (sinkOut o) shapeCasts_S1x128_S1x1x128) broadcasts_S1x1x128_S8x8x128)))
      (broadcastTo S8x8x128 (addf (shapeCast S8x8x1 (multiReduction .add [2] S8x8 (wS1 q k) 0x00000000#32 reduces_S8x8x8_S8x8 (.inl rfl) rfl)
        shapeCasts_S8x8_S8x8x1) (eS1 q k)) broadcasts_S8x8x1_S8x8x128))
    shapeCasts_S8x8x128_S64x128

/-- The weight of the first child. -/
def wC1 : FVec F S64x1 .f32 :=
  exp2 (mulf (shapeCast S64x1 (multiReduction .add [1] S64 (mulf (nodes1 q) (heads0 (q0 k)))
    0x00000000#32 reduces_S64x128_S64 (.inl rfl) rfl) shapeCasts_S64_S64x1) (broadcast S64x1 c2))

/-- The mean over the children. -/
def child1 : FVec F S64x128 .f32 :=
  divf (addf (mulf (broadcastTo S64x128 (wC1 q k) broadcasts_S64x1_S64x128) (heads0 o))
      (mulf (broadcastTo S64x128 (mulf (broadcast S64x1 seven) (exp1 q k)) broadcasts_S64x1_S64x128)
        (broadcastTo S64x128 (sinkOut o) broadcasts_S1x128_S64x128)))
    (broadcastTo S64x128 (addf (wC1 q k) (mulf (broadcast S64x1 seven) (exp1 q k))) broadcasts_S64x1_S64x128)

/-- The new values of level 1. -/
def out1 : FVec F S64x128 .f32 :=
  divf (addf (addf (anc1 q k v o) (sib1 q k v o)) (child1 q k o)) (broadcast S64x128 three)

/-! ### Level 2: the 8 nodes above, `o1` being the new values of level 1 -/

variable (o1 : FVec F S64x128 .f32)

/-- The sink's weight at each node. -/
def exp2' : FVec F S8x1 .f32 :=
  exp2 (mulf (shapeCast S8x1 (multiReduction .add [1] S8 (mulf (nodes2 q) (broadcastTo S8x128 (sink k) broadcasts_S1x128_S8x128))
    0x00000000#32 reduces_S8x128_S8 (.inl rfl) rfl) shapeCasts_S8_S8x1) (broadcast S8x1 c2))

/-- The weights of the siblings. -/
def wS2 : FVec F S8x8 .f32 :=
  exp2 (mulf (select (shapeCast S8x8 (extractStridedSlice S1x8x8 ![0, 0, 0] maskS slices_S64x8x8_o0_0_0_S1x8x8) shapeCasts_S1x8x8_S8x8)
    (matmul dot_S8x128_S8x128_S8x8_1_1_0_0_n_n none (nodes2 q) (nodes2 k) (constant S8x8 .f32 0x00000000#32))
    (broadcast S8x8 masked)) (broadcast S8x8 c2))

/-- The sink's weight among the siblings, times its number. -/
def eS2 : FVec F S8x1 .f32 :=
  mulf (shapeCast S8x1 (extractStridedSlice S1x8x1 ![0, 0, 0] cntS slices_S64x8x1_o0_0_0_S1x8x1) shapeCasts_S1x8x1_S8x1) (exp2' q k)

/-- The mean over the siblings. -/
def sib2 : FVec F S8x128 .f32 :=
  divf (addf (matmul dot_S8x8_S8x128_S8x128_1_0_0_1_n_n none (wS2 q k) (nodes2 v) (constant S8x128 .f32 0x00000000#32))
      (mulf (broadcastTo S8x128 (eS2 q k) broadcasts_S8x1_S8x128) (broadcastTo S8x128 (sinkOut o) broadcasts_S1x128_S8x128)))
    (broadcastTo S8x128 (addf (shapeCast S8x1 (multiReduction .add [1] S8 (wS2 q k) 0x00000000#32 reduces_S8x8_S8 (.inl rfl) rfl)
      shapeCasts_S8_S8x1) (eS2 q k)) broadcasts_S8x1_S8x128)

/-- The weight of the first child. -/
def wC2 : FVec F S8x1 .f32 :=
  exp2 (mulf (shapeCast S8x1 (multiReduction .add [1] S8 (mulf (nodes2 q) (heads1 (nodes1 k)))
    0x00000000#32 reduces_S8x128_S8 (.inl rfl) rfl) shapeCasts_S8_S8x1) (broadcast S8x1 c2))

/-- The mean over the children. -/
def child2 : FVec F S8x128 .f32 :=
  divf (addf (mulf (broadcastTo S8x128 (wC2 q k) broadcasts_S8x1_S8x128) (heads1 o1))
      (mulf (broadcastTo S8x128 (mulf (broadcast S8x1 seven) (exp2' q k)) broadcasts_S8x1_S8x128)
        (broadcastTo S8x128 (sinkOut o) broadcasts_S1x128_S8x128)))
    (broadcastTo S8x128 (addf (wC2 q k) (mulf (broadcast S8x1 seven) (exp2' q k))) broadcasts_S8x1_S8x128)

/-- The new values of level 2: of the nodes above only the sink is seen. -/
def out2 : FVec F S8x128 .f32 :=
  divf (addf (addf (broadcastTo S8x128 (shapeCast S1x128 (sinkOut o) shapeCasts_S1x128_S1x128) broadcasts_S1x128_S8x128) (sib2 q k v o))
    (child2 q k o o1)) (broadcast S8x128 three)

/-! ### Level 3: the root, `o2` being the new values of level 2 -/

variable (o2 : FVec F S8x128 .f32)

/-- The sink's weight at the root. -/
def exp3 : FVec F S1x1 .f32 :=
  exp2 (mulf (shapeCast S1x1 (multiReduction .add [1] S1 (mulf (root q) (sink k))
    0x00000000#32 reduces_S1x128_S1 (.inl rfl) rfl) shapeCasts_S1_S1x1) (broadcast S1x1 c2))

/-- The weight of the first child. -/
def wC3 : FVec F S1x1 .f32 :=
  exp2 (mulf (shapeCast S1x1 (multiReduction .add [1] S1 (mulf (root q) (extractStridedSlice S1x128 ![576, 0] k slices_S585x128_o576_0_S1x128))
    0x00000000#32 reduces_S1x128_S1 (.inl rfl) rfl) shapeCasts_S1_S1x1) (broadcast S1x1 c2))

/-- The mean over the children. -/
def child3 : FVec F S1x128 .f32 :=
  divf (addf (mulf (broadcastTo S1x128 (wC3 q k) broadcasts_S1x1_S1x128) (extractStridedSlice S1x128 ![0, 0] o2 slices_S8x128_o0_0_S1x128))
      (mulf (broadcastTo S1x128 (mulf (broadcast S1x1 seven) (exp3 q k)) broadcasts_S1x1_S1x128) (sinkOut o)))
    (broadcastTo S1x128 (addf (wC3 q k) (mulf (broadcast S1x1 seven) (exp3 q k))) broadcasts_S1x1_S1x128)

/-- The root's new value: its only sibling is itself. -/
def out3 : FVec F S1x128 .f32 := divf (addf (root v) (child3 q k o o2)) (broadcast S1x128 three)

/-! ### The head -/

/-- The new values above the leaves, level on level. -/
def upper : FVec F S73x128 .f32 :=
  concatenate S73x128 0 [⟨S64x128, out1 q k v (out0 q k v)⟩,
    ⟨S8x128, out2 q k v (out0 q k v) (out1 q k v (out0 q k v))⟩,
    ⟨S1x128, out3 q k v (out0 q k v) (out2 q k v (out0 q k v) (out1 q k v (out0 q k v)))⟩] concatenates_S64x128_S8x128_S1x128_S73x128_d0

end Tree.Kernel

end
-- ==== Proof.KernelBlock.lean ====
/- What one grid point of the kernel leaves in its block of the result: for each of the block's four heads the leaves' new
   values and, below them, the new values of the levels above. -/
module

public import proofs.«01_k».proof.Proof.Gen.KernelIdeal.Frame
public import proofs.«01_k».proof.Proof.KernelOps
public import Idealize.ShloMosaic.Lib.Pipeline.Value

@[expose] public section

set_option maxRecDepth 16384

noncomputable section

namespace Tree.Kernel

open Idealize.ShloMosaic Idealize.ShloMosaic.TcCoe Idealize.ShloMosaic.Tactic
open Idealize.SL.Sem
open Cert.KernelIdeal Cert.KernelIdeal.Gen

theorem headInb (b : ℕ) (h : b < 4) : ∀ a, (![b, 0, 0] : Fin 3 → ℕ) a + S1x585x128.size a ≤ S4x585x128.size a := by
  intro a; fin_cases a <;> simp <;> omega
theorem leafInb (b : ℕ) (h : b < 4) : ∀ a, (![b, 0, 0] : Fin 3 → ℕ) a + S1x512x128.size a ≤ S4x585x128.size a := by
  intro a; fin_cases a <;> simp <;> omega
theorem upperInb (b : ℕ) (h : b < 4) : ∀ a, (![b, 512, 0] : Fin 3 → ℕ) a + S1x73x128.size a ≤ S4x585x128.size a := by
  intro a; fin_cases a <;> simp <;> omega

/-- The rows of head `b` of a block. -/
def head (x : Vec Ideal S4x585x128 .f32) (b : ℕ) (h : b < 4) : FVec Ideal S585x128 .f32 :=
  rows (View.ld x (Rect.unit ![b, 0, 0] ![1, 585, 128] (headInb b h)))

/-- The store of head `b`'s leaves. -/
def leafPiece (x0 x1 x2 : Vec Ideal S4x585x128 .f32) (b : ℕ) (h : b < 4) : View.Piece (Elt Ideal) S4x585x128 .f32 :=
  ⟨Rect.unit ![b, 0, 0] ![1, 512, 128] (leafInb b h),
    shapeCast S1x512x128 (out0 (head x0 b h) (head x1 b h) (head x2 b h)) shapeCasts_S512x128_S1x512x128⟩

/-- The store of head `b`'s levels above the leaves. -/
def upperPiece (x0 x1 x2 : Vec Ideal S4x585x128 .f32) (b : ℕ) (h : b < 4) : View.Piece (Elt Ideal) S4x585x128 .f32 :=
  ⟨Rect.unit ![b, 512, 0] ![1, 73, 128] (upperInb b h),
    shapeCast S1x73x128 (upper (head x0 b h) (head x1 b h) (head x2 b h)) shapeCasts_S73x128_S1x73x128⟩

/-- The eight stores of a point, last first. -/
def pieces (x0 x1 x2 : Vec Ideal S4x585x128 .f32) : List (View.Piece (Elt Ideal) S4x585x128 .f32) :=
  [upperPiece x0 x1 x2 3 (by decide), leafPiece x0 x1 x2 3 (by decide),
   upperPiece x0 x1 x2 2 (by decide), leafPiece x0 x1 x2 2 (by decide),
   upperPiece x0 x1 x2 1 (by decide), leafPiece x0 x1 x2 1 (by decide),
   upperPiece x0 x1 x2 0 (by decide), leafPiece x0 x1 x2 0 (by decide)]

variable (m : (ℓ : Loc nD τ sig) → Buf (Elt Ideal) ℓ)

/-- A point's block of the result is its eight stores over its three input blocks. -/
theorem outs_eq (c : Dev nD) (t : Fin cfg0.N) :
    outsAt0 m c t = View.canon (pieces (iblk m c 0 t) (iblk m c 1 t) (iblk m c 2 t)) := by
  unfold outsAt0 out0_A_3
  rw [View.read_writes_eq_canon _ _ _ (cover0_A_3 c _ _ _ _ _ _ _ _ _ _ _ _)]
  unfold kernelRun0_A
  dsimp only
  sl_unfold_words
  simp only [View.readAt_eq_ld, (hs0_0 t).read_unread, (hs0_1 t).read_unread, (hs0_2 t).read_unread]
  generalize iblk m c 0 t = x0
  generalize iblk m c 1 t = x1
  generalize iblk m c 2 t = x2
  rfl

end Tree.Kernel

end
-- ==== Proof.Softmax.lean ====
/- Weighted means under exponential weights, over the extended reals: the softmax of real scores with any real shift is
   the plain quotient of sums, and the entries a mask sends to one shared entry may be counted instead of summed. -/
module

public import Idealize.ShloMosaic.Lib.IdealHost
public import Mathlib.Analysis.SpecialFunctions.Log.Basic

@[expose] public section

noncomputable section

namespace Tree

open Idealize.ShloMosaic

/-- The mean of the values `v` under the weights `exp (x s)`. -/
def attn {ι : Type} [Fintype ι] (x : ι → ℝ) (v : ι → EReal) : EReal :=
  Ideal.div (∑ s, ((Real.exp (x s) : ℝ) : EReal) * v s) ((∑ s, Real.exp (x s) : ℝ) : EReal)

/-- A finite sum of reals is the same sum among the extended reals. -/
theorem coe_sum {ι : Type} (t : Finset ι) (f : ι → ℝ) : ((∑ s ∈ t, f s : ℝ) : EReal) = ∑ s ∈ t, (f s : EReal) := by
  classical
  induction t using Finset.induction_on with
  | empty => simp
  | insert a t ha ih => rw [Finset.sum_insert ha, Finset.sum_insert ha, EReal.coe_add, ih]

/-- A nonnegative real factor goes into a finite sum. -/
theorem coe_mul_sum {ι : Type} (t : Finset ι) (r : ℝ) (hr : 0 ≤ r) (f : ι → EReal) :
    (r : EReal) * ∑ s ∈ t, f s = ∑ s ∈ t, (r : EReal) * f s := by
  classical
  induction t using Finset.induction_on with
  | empty => simp
  | insert a t ha ih =>
    rw [Finset.sum_insert ha, Finset.sum_insert ha,
      EReal.left_distrib_of_nonneg_of_ne_top (EReal.coe_nonneg.mpr hr) (EReal.coe_ne_top r), ih]

/-- Dividing by a nonzero real. -/
theorem div_real (a : EReal) {r : ℝ} (h : r ≠ 0) : Ideal.div a (r : EReal) = (r⁻¹ : ℝ) * a := by
  rw [Ideal.div_coe h, one_div, mul_comm]

/-- Softmax: with real scores `x` and any real shift `M`, normalising the weights `exp (x s − M)` before the sum gives the
    mean `attn x v`. -/
theorem softmax_eq {ι : Type} [Fintype ι] [Nonempty ι] (x : ι → ℝ) (M : ℝ) (v : ι → EReal) :
    ∑ s, Ideal.div ((Real.exp (x s - M) : ℝ) : EReal) ((∑ s', Real.exp (x s' - M) : ℝ) : EReal) * v s = attn x v := by
  have hpos : ∀ y : ι → ℝ, 0 < ∑ s, Real.exp (y s) := fun y =>
    Finset.sum_pos (fun s _ => Real.exp_pos _) Finset.univ_nonempty
  have hM : (∑ s, Real.exp (x s - M)) = Real.exp (-M) * ∑ s, Real.exp (x s) := by
    rw [Finset.mul_sum]
    exact Finset.sum_congr rfl fun s _ => by rw [← Real.exp_add]; congr 1; ring
  unfold attn
  rw [div_real _ (hpos x).ne', coe_mul_sum _ _ (inv_nonneg.mpr (hpos x).le)]
  refine Finset.sum_congr rfl fun s _ => ?_
  rw [div_real _ (hpos _).ne', ← mul_assoc, ← EReal.coe_mul, ← EReal.coe_mul, hM]
  congr 2
  have h1 := (hpos x).ne'
  have h2 := (Real.exp_pos (-M)).ne'
  rw [sub_eq_add_neg, Real.exp_add]
  field_simp

/-- The number of entries off a mask times one entry is that entry summed over them. -/
theorem count_mul {ι : Type} [Fintype ι] (p : ι → Prop) [DecidablePred p] (n : ℕ) (hn : (Finset.univ.filter fun s => ¬ p s).card = n)
    (c : EReal) : (∑ s, if p s then 0 else c) = ((n : ℝ) : EReal) * c := by
  subst hn
  rw [← Finset.sum_filter_add_sum_filter_not Finset.univ p]
  rw [Finset.sum_congr rfl (g := fun _ => (0 : EReal)) fun s hs => if_pos (Finset.mem_filter.mp hs).2,
    Finset.sum_congr (s₁ := Finset.univ.filter fun s => ¬ p s) rfl (g := fun _ => c) fun s hs => if_neg (Finset.mem_filter.mp hs).2]
  simp [EReal.nsmul_eq_mul]

/-- The entries off the mask `p` all stand for one entry of score `x0` and value `v0`: summing the masked weights and
    counting the rest `n` times gives the mean over all. -/
theorem masked_eq {ι : Type} [Fintype ι] (p : ι → Prop) [DecidablePred p] (n : ℕ)
    (hn : (Finset.univ.filter fun s => ¬ p s).card = n) (x : ι → ℝ) (v : ι → EReal) (x0 : ℝ) (v0 : EReal) :
    Ideal.div ((∑ s, ((if p s then Real.exp (x s) else 0 : ℝ) : EReal) * v s) + ((n : ℝ) : EReal) * ((Real.exp x0 : ℝ) : EReal) * v0)
        ((∑ s, ((if p s then Real.exp (x s) else 0 : ℝ) : EReal)) + ((n : ℝ) : EReal) * ((Real.exp x0 : ℝ) : EReal))
      = attn (fun s => if p s then x s else x0) (fun s => if p s then v s else v0) := by
  unfold attn
  congr 1
  · rw [mul_assoc, ← count_mul p n hn, ← Finset.sum_add_distrib]
    refine Finset.sum_congr rfl fun s _ => ?_
    by_cases h : p s <;> simp [h]
  · rw [coe_sum, ← count_mul p n hn, ← Finset.sum_add_distrib]
    refine Finset.sum_congr rfl fun s _ => ?_
    by_cases h : p s <;> simp [h]

/-- Eight places of which the first has a score and value of its own and the other seven share one. -/
theorem first_eq (x x0 : ℝ) (v v0 : EReal) :
    Ideal.div (((Real.exp x : ℝ) : EReal) * v + ((7 : ℝ) : EReal) * ((Real.exp x0 : ℝ) : EReal) * v0)
        (((Real.exp x : ℝ) : EReal) + ((7 : ℝ) : EReal) * ((Real.exp x0 : ℝ) : EReal))
      = attn (fun s : Fin 8 => if s = 0 then x else x0) (fun s => if s = 0 then v else v0) := by
  rw [← masked_eq (fun s : Fin 8 => s = 0) 7 (by decide) (fun _ => x) (fun _ => v) x0 v0]
  congr 1
  · congr 1
    rw [Finset.sum_eq_single 0 (fun s _ h => by simp [h]) (by simp)]
    simp
  · congr 1
    rw [Finset.sum_eq_single 0 (fun s _ h => by simp [h]) (by simp)]
    simp

/-- A mean of one value everywhere is that value. -/
theorem attn_const {ι : Type} [Fintype ι] [Nonempty ι] (x : ι → ℝ) (c : EReal) : attn x (fun _ => c) = c := by
  have hpos : 0 < ∑ s, Real.exp (x s) := Finset.sum_pos (fun s _ => Real.exp_pos _) Finset.univ_nonempty
  unfold attn
  rw [div_real _ hpos.ne', coe_mul_sum _ _ (inv_nonneg.mpr hpos.le)]
  have : ∀ t : Finset ι, (∑ s ∈ t, (((∑ s, Real.exp (x s))⁻¹ : ℝ) : EReal) * (((Real.exp (x s) : ℝ) : EReal) * c))
      = (((∑ s, Real.exp (x s))⁻¹ * ∑ s ∈ t, Real.exp (x s) : ℝ) : EReal) * c := by
    classical
    intro t
    induction t using Finset.induction_on with
    | empty => simp
    | insert a t ha ih =>
      rw [Finset.sum_insert ha, Finset.sum_insert ha, ih, mul_add, EReal.coe_add,
        EReal.right_distrib_of_nonneg (by positivity) (by positivity), ← mul_assoc, ← EReal.coe_mul]
  rw [this, inv_mul_cancel₀ hpos.ne']
  simp

end Tree

end
-- ==== Proof.KernelWords.lean ====
/- The kernel's constants, masks and counts, place by place: what the words it computes say, and what a scaled, masked score weighs. -/
module

public import proofs.«01_k».proof.Proof.KernelOps
public import proofs.«01_k».proof.Proof.Softmax
public import Idealize.ShloMosaic.Lib.Pointwise

@[expose] public section

set_option maxRecDepth 16384

noncomputable section

namespace Tree.Kernel

open Idealize.ShloMosaic Cert.KernelIdeal Cert.KernelIdeal.Gen

/-- The scale is `1/(ln 2 · √128)`, so that powers of two become powers of `e`. -/
theorem c2_eq : (c2 : Ideal .f32) = (((Real.log 2)⁻¹ * (√128)⁻¹ : ℝ) : EReal) :=
  IdealRules.named_const.ideal_named_scalar _ _ _ _ rfl

/-- The masked score is −∞. -/
theorem masked_eq_bot : (masked : Ideal .f32) = (⊥ : EReal) :=
  IdealRules.named_const.ideal_named_scalar _ _ _ _ rfl

/-- The constant 3. -/
theorem three_eq : (three : Ideal .f32) = ((3 : ℝ) : EReal) := by
  show Ideal.ofBits .f32 0x40400000#32 = _
  simp [Ideal.ofBits, Ideal.ieee, -EReal.coe_mul]; norm_num

/-- The constant 7. -/
theorem seven_eq : (seven : Ideal .f32) = ((7 : ℝ) : EReal) := by
  show Ideal.ofBits .f32 0x40E00000#32 = _
  simp [Ideal.ofBits, Ideal.ieee, -EReal.coe_mul]; norm_num

/-- `exp2` of a scaled score is `exp` of the score over `√128`. -/
theorem weight (r : ℝ) :
    FloatOps.exp2 (F := Ideal) (φ := .f32) ((r : EReal) * (c2 : Ideal .f32) : EReal) = ((Real.exp (r / √128) : ℝ) : EReal) := by
  rw [c2_eq, ← EReal.coe_mul]
  refine (Ideal.exp2_coe _).trans (congrArg _ ?_)
  rw [Real.rpow_eq_pow, Real.rpow_def_of_pos two_pos]
  congr 1
  have : Real.log 2 ≠ 0 := (Real.log_pos one_lt_two).ne'
  field_simp

/-- The masked score has weight 0. -/
theorem weight_masked :
    FloatOps.exp2 (F := Ideal) (φ := .f32) ((masked : Ideal .f32) * (c2 : Ideal .f32) : EReal) = ((0 : ℝ) : EReal) := by
  rw [c2_eq, masked_eq_bot, EReal.bot_mul_coe_of_pos]
  · exact Ideal.exp2_bot
  · have := Real.log_pos one_lt_two
    positivity

/-- A weight under a mask. -/
theorem weight_select (p : Prop) [Decidable p] (r : ℝ) :
    FloatOps.exp2 (F := Ideal) (φ := .f32) (Scalar.select (if p then 1#1 else 0#1) (r : EReal) (masked : Ideal .f32) * (c2 : Ideal .f32) : EReal)
      = ((if p then Real.exp (r / √128) else 0 : ℝ) : EReal) := by
  split
  · exact weight r
  · exact weight_masked

/-- A count, as a number. -/
theorem count (w : BitVec 32) (n : ℕ) (h : w.toInt = n) :
    FloatOps.sitofp (F := Ideal) (w := 32) .f32 w = (((n : ℕ) : ℝ) : EReal) := by
  show (((w.toInt : ℤ) : ℝ) : EReal) = _
  rw [h]; simp

/-- The kernel's floor division of a leaf's number by 8. -/
theorem floor512 (i : Fin 512) : (Scalar.select
        (IntOp.andi
          (IntOp.cmpi CmpIPredicate.ne
            (IntOp.subi (BitVec.setWidth 32 (IntOp.cmpi CmpIPredicate.sgt (BitVec.ofNat 32 i) 0#32))
              (BitVec.setWidth 32 (IntOp.cmpi CmpIPredicate.slt (BitVec.ofNat 32 i) 0#32)))
            (Scalar.subi (Scalar.extui (Scalar.cmpi CmpIPredicate.sgt 8#32 0#32))
              (Scalar.extui (Scalar.cmpi CmpIPredicate.slt 8#32 0#32))))
          (IntOp.cmpi CmpIPredicate.ne (IntOp.remsi ArithUnit.vector (BitVec.ofNat 32 i) 8#32) 0#32))
        (IntOp.subi (IntOp.divsi ArithUnit.vector (BitVec.ofNat 32 i) 8#32) 1#32)
        (IntOp.divsi ArithUnit.vector (BitVec.ofNat 32 i) 8#32)) = BitVec.ofNat 32 (i / 8) := by
  revert i; decide +kernel

/-- Of the places above leaf `i`, the first `i / 8` are seen. -/
theorem maskA0_apply (i : Fin 512) (j : Fin 64) : maskA0 (ix2 i j) = if j.val < i.val / 8 then 1#1 else 0#1 := by
  unfold maskA0 k0_pay2
  pointwise []
  rw [floor512]
  have : ∀ j q : Fin 64, IntOp.cmpi CmpIPredicate.slt (BitVec.ofNat 32 j) (BitVec.ofNat 32 q) = if j.val < q.val then 1#1 else 0#1 := by
    decide +kernel
  exact this j ⟨i / 8, by omega⟩

/-- The other places above leaf `i`, counted. -/
theorem cntA0_apply (i : Fin 512) (u : Fin 1) : cntA0 (F := Ideal) (ix2 i u) = (((64 - i.val / 8 : ℕ) : ℝ) : EReal) := by
  pointwise [cntA0, k0_pay7, k0_pay3, k0_pay4, k0_pay5, k0_pay6]
  rw [floor512]
  have h : ∀ q : Fin 64, (IntOp.subi (64#32) (BitVec.ofNat 32 q)).toInt = (64 - q.val : ℕ) := by
    decide +kernel
  exact count _ _ (h ⟨i / 8, by omega⟩)

/-- Of the places above node `i` of level 1, the first `i / 8` are seen. -/
theorem maskA1_apply (i : Fin 64) (j : Fin 8) : maskA1 (ix2 i j) = if j.val < i.val / 8 then 1#1 else 0#1 := by
  revert i j
  decide +kernel

/-- The other places above node `i` of level 1, counted. -/
theorem cntA1_apply (i : Fin 64) (u : Fin 1) : cntA1 (F := Ideal) (ix2 i u) = (((8 - i.val / 8 : ℕ) : ℝ) : EReal) := by
  pointwise [cntA1, k0_pay12, k0_pay11, k0_pay10, k0_pay9]
  apply count
  revert i
  decide +kernel

/-- A node sees the siblings up to itself. -/
theorem maskS_apply (i : Fin 64) (r s : Fin 8) : maskS (ix3 i r s) = if s.val ≤ r.val then 1#1 else 0#1 := by
  unfold maskS k0_pay13
  pointwise []
  revert r s
  decide +kernel

/-- The siblings after a node, counted. -/
theorem cntS_apply (i : Fin 64) (r : Fin 8) (s : Fin 1) : cntS (F := Ideal) (ix3 i r s) = (((7 - r.val : ℕ) : ℝ) : EReal) := by
  pointwise [cntS, k0_pay14]
  apply count
  revert r
  decide +kernel

end Tree.Kernel

end
-- ==== Proof.Spec.lean ====
/- Attention over a tree of four levels, of one head, as plain mathematics: `q n`, `k n` and `v n` are the rows of the 585 nodes,
   numbered level by level (512 leaves from 0, 64 nodes from 512, 8 from 576, the root 584). A node takes the mean of three
   softmax means — over nodes of the level above, over its siblings, over its children — whose unused places all name node 0.
   The levels are taken from the leaves up, and each reads the values the ones before it have replaced. -/
module

public import proofs.«01_k».proof.Proof.Softmax
public import Idealize.ShloMosaic.Lib.Pointwise

@[expose] public section

noncomputable section

namespace Tree

open Idealize.ShloMosaic

variable (q k : ℕ → Fin 128 → ℝ)

/-- The score of node `i` with node `j`. -/
def score (i j : ℕ) : ℝ := (∑ d, q i d * k j d) / √128

/-- The softmax mean of node `n` over the nodes `sel s`, of the values `w`. -/
def mean {N : ℕ} (n : ℕ) (sel : Fin N → ℕ) (w : ℕ → Fin 128 → EReal) (d : Fin 128) : EReal :=
  attn (fun s => score q k n (sel s)) (fun s => w (sel s) d)

/-- What the 64 places above leaf `i` name. -/
def ancSel0 (i : ℕ) (s : Fin 64) : ℕ := if s.val < i / 8 then 512 + s else 0
/-- What the 8 places above the `i`-th node of level 1 name. -/
def ancSel1 (i : ℕ) (s : Fin 8) : ℕ := if s.val < i / 8 then 576 + s else 0
/-- The one place above a node of level 2 names the sink. -/
def ancSel2 (_ : Fin 1) : ℕ := 0
/-- What the 8 sibling places of the `i`-th node of a level that begins at `base` name. -/
def sibSel (base i : ℕ) (s : Fin 8) : ℕ := if s.val ≤ i % 8 then base + (i / 8 * 8 + s) else 0
/-- All the sibling places of the root name the root. -/
def sibSel3 (_ : Fin 8) : ℕ := 584
/-- What the 8 child places of the `i`-th node of a level whose children begin at `base` name: the first child alone. -/
def childSel (base i : ℕ) (s : Fin 8) : ℕ := if s = 0 then base + i * 8 else 0

variable (v : ℕ → Fin 128 → EReal)

/-- The new value of leaf `i`. -/
def new0 (i : ℕ) (d : Fin 128) : EReal :=
  Ideal.div (mean q k i (ancSel0 i) v d + mean q k i (sibSel 0 i) v d) ((3 : ℝ) : EReal)

/-- The values once the leaves are replaced. -/
def vals1 (n : ℕ) (d : Fin 128) : EReal := if n < 512 then new0 q k v n d else v n d

/-- The new value of the `i`-th node of level 1. -/
def new1 (i : ℕ) (d : Fin 128) : EReal :=
  Ideal.div (mean q k (512 + i) (ancSel1 i) (vals1 q k v) d + mean q k (512 + i) (sibSel 512 i) (vals1 q k v) d
    + mean q k (512 + i) (childSel 0 i) (vals1 q k v) d) ((3 : ℝ) : EReal)

/-- The values once level 1 is replaced too. -/
def vals2 (n : ℕ) (d : Fin 128) : EReal := if 512 ≤ n ∧ n < 576 then new1 q k v (n - 512) d else vals1 q k v n d

/-- The new value of the `i`-th node of level 2. -/
def new2 (i : ℕ) (d : Fin 128) : EReal :=
  Ideal.div (mean q k (576 + i) ancSel2 (vals2 q k v) d + mean q k (576 + i) (sibSel 576 i) (vals2 q k v) d
    + mean q k (576 + i) (childSel 512 i) (vals2 q k v) d) ((3 : ℝ) : EReal)

/-- The values once level 2 is replaced too. -/
def vals3 (n : ℕ) (d : Fin 128) : EReal := if 576 ≤ n ∧ n < 584 then new2 q k v (n - 576) d else vals2 q k v n d

/-- The new value of the root. -/
def new3 (d : Fin 128) : EReal :=
  Ideal.div (mean q k 584 sibSel3 (vals3 q k v) d + mean q k 584 (childSel 576 0) (vals3 q k v) d) ((3 : ℝ) : EReal)

/-- The values at the end. -/
def vals4 (n : ℕ) (d : Fin 128) : EReal := if n = 584 then new3 q k v d else vals3 q k v n d

/-- A head's rows by number. -/
def rowsOf (A : Fin 585 → Fin 128 → EReal) (n : ℕ) (d : Fin 128) : EReal := if h : n < 585 then A ⟨n, h⟩ d else 0

/-- The attention of one head, of its rows of queries, keys and values. -/
def headOut (A0 A1 A2 : Fin 585 → Fin 128 → EReal) (n : Fin 585) (d : Fin 128) : EReal :=
  vals4 (fun n d => (rowsOf A0 n d).toReal) (fun n d => (rowsOf A1 n d).toReal) (rowsOf A2) n d

theorem rowsOf_apply (A : Fin 585 → Fin 128 → EReal) (n : ℕ) (h : n < 585) (d : Fin 128) : A ⟨n, h⟩ d = rowsOf A n d := by
  rw [rowsOf, dif_pos h]

/-- Of finite rows the numbers are the rows. -/
theorem rowsOf_real {A : Fin 585 → Fin 128 → EReal} (hA : ∀ n d, A n d ≠ ⊤ ∧ A n d ≠ ⊥) (n : ℕ) (h : n < 585) (d : Fin 128) :
    A ⟨n, h⟩ d = (((rowsOf A n d).toReal : ℝ) : EReal) := by
  rw [← rowsOf_apply A n h, EReal.coe_toReal (hA _ _).1 (hA _ _).2]

/-- The attention of every head of every batch. -/
def attention (A0 A1 A2 : (⟨4, ![4, 4, 585, 128]⟩ : Shape).Idx → EReal) : (⟨4, ![4, 4, 585, 128]⟩ : Shape).Idx → EReal := fun y =>
  headOut (fun n d => A0 (ix4 (y 0) (y 1) n d)) (fun n d => A1 (ix4 (y 0) (y 1) n d)) (fun n d => A2 (ix4 (y 0) (y 1) n d)) (y 2) (y 3)

/-- Two arrays that agree batch by batch, head by head, row by row and place by place are one. -/
theorem attention_ext {X Y : (⟨4, ![4, 4, 585, 128]⟩ : Shape).Idx → EReal}
    (h : ∀ (b g : Fin 4) (n : Fin 585) (d : Fin 128), X (ix4 b g n d) = Y (ix4 b g n d)) : X = Y := by
  funext y
  have hy : y = ix4 (y 0 : Fin 4) (y 1 : Fin 4) (y 2 : Fin 585) (y 3 : Fin 128) := by
    funext a; fin_cases a <;> rfl
  exact (congrArg X hy).trans ((h _ _ _ _).trans (congrArg Y hy).symm)

end Tree

end
-- ==== Proof.KernelRead.lean ====
/- What the kernel computes of one head, place by place: each level's new values are those of the tree's mathematics. -/
module

public import proofs.«01_k».proof.Proof.KernelWords
public import proofs.«01_k».proof.Proof.Spec

@[expose] public section

set_option maxRecDepth 16384

noncomputable section

namespace Tree.Kernel

open Idealize.ShloMosaic Cert.KernelIdeal Cert.KernelIdeal.Gen

variable {q k v : FVec Ideal S585x128 .f32} {Q K : ℕ → Fin 128 → ℝ} {V : ℕ → Fin 128 → EReal}

/-- A count of places under a bound. -/
theorem card_lt64 (a : ℕ) (h : a < 64) : (Finset.univ.filter fun s : Fin 64 => ¬ s.val < a).card = 64 - a := by
  have : ∀ a : Fin 64, (Finset.univ.filter fun s : Fin 64 => ¬ s.val < a.val).card = 64 - a.val := by decide +kernel
  exact this ⟨a, h⟩

theorem card_lt8 (a : ℕ) (h : a < 8) : (Finset.univ.filter fun s : Fin 8 => ¬ s.val < a).card = 8 - a := by
  have : ∀ a : Fin 8, (Finset.univ.filter fun s : Fin 8 => ¬ s.val < a.val).card = 8 - a.val := by decide +kernel
  exact this ⟨a, h⟩

theorem card_le8 (a : ℕ) (h : a < 8) : (Finset.univ.filter fun s : Fin 8 => ¬ s.val ≤ a).card = 7 - a := by
  have : ∀ a : Fin 8, (Finset.univ.filter fun s : Fin 8 => ¬ s.val ≤ a.val).card = 7 - a.val := by decide +kernel
  exact this ⟨a, h⟩

/-- The kernel's form of a mean: the seen places weighed one by one, the sink once with its count. -/
theorem masked_mean {N : ℕ} (n : ℕ) (p : Fin N → Prop) [DecidablePred p] (f : Fin N → ℕ) (c : ℕ)
    (hc : (Finset.univ.filter fun s => ¬ p s).card = c) (W : ℕ → Fin 128 → EReal) (d : Fin 128)
    (w : Fin N → EReal) (hw : ∀ s, w s = W (f s) d) (w0 : EReal) (hw0 : w0 = W 0 d) :
    Ideal.div ((∑ s, ((if p s then Real.exp (score Q K n (f s)) else 0 : ℝ) : EReal) * w s)
          + ((c : ℝ) : EReal) * ((Real.exp (score Q K n 0) : ℝ) : EReal) * w0)
        ((∑ s, ((if p s then Real.exp (score Q K n (f s)) else 0 : ℝ) : EReal)) + ((c : ℝ) : EReal) * ((Real.exp (score Q K n 0) : ℝ) : EReal))
      = mean Q K n (fun s => if p s then f s else 0) W d := by
  obtain rfl := funext hw
  subst hw0
  rw [Tree.masked_eq p c hc]
  unfold mean
  congr 1 <;> funext s <;> by_cases h : p s <;> simp only [h, if_true, if_false]

/-- The kernel's form of a mean over children: the first child, and the sink seven times. -/
theorem first_mean (n base i : ℕ) (W : ℕ → Fin 128 → EReal) (d : Fin 128) (w w0 : EReal) (hw : w = W (base + i * 8) d) (hw0 : w0 = W 0 d) :
    Ideal.div (((Real.exp (score Q K n (base + i * 8)) : ℝ) : EReal) * w + ((7 : ℝ) : EReal) * ((Real.exp (score Q K n 0) : ℝ) : EReal) * w0)
        (((Real.exp (score Q K n (base + i * 8)) : ℝ) : EReal) + ((7 : ℝ) : EReal) * ((Real.exp (score Q K n 0) : ℝ) : EReal))
      = mean Q K n (childSel base i) W d := by
  subst hw hw0
  rw [Tree.first_eq]
  unfold mean childSel
  congr 1 <;> funext s <;> split <;> rfl

variable (hq : ∀ n (h : n < 585) d, q (ix2 ⟨n, h⟩ d) = ((Q n d : ℝ) : EReal))
    (hk : ∀ n (h : n < 585) d, k (ix2 ⟨n, h⟩ d) = ((K n d : ℝ) : EReal))
    (hv : ∀ n (h : n < 585) d, v (ix2 ⟨n, h⟩ d) = V n d)

include hq hk

/-- The inner product of two rows of real numbers. -/
theorem dot (i j : ℕ) (hi : i < 585) (hj : j < 585) :
    (∑ d : Fin 128, (q (ix2 ⟨i, hi⟩ d) * k (ix2 ⟨j, hj⟩ d) : EReal)) = ((∑ d, Q i d * K j d : ℝ) : EReal) := by
  rw [coe_sum]
  exact Finset.sum_congr rfl fun d _ => by rw [hq, hk, EReal.coe_mul]

/-! ### The leaves -/

/-- The sink's weight at a leaf. -/
theorem exp0_apply (i : Fin 512) (u : Fin 1) : exp0 q k (ix2 i u) = ((Real.exp (score Q K i 0) : ℝ) : EReal) := by
  pointwise [exp0, q0, sink, rows]
  exact (congrArg (fun z : EReal => FloatOps.exp2 (F := Ideal) (φ := .f32) (z * (c2 : Ideal .f32) : EReal))
    (dot hq hk i 0 (by omega) (by omega))).trans (weight _)

/-- The weights of the nodes above a leaf. -/
theorem wA0_apply (i : Fin 512) (j : Fin 64) :
    wA0 q k (ix2 i j) = ((if j.val < i.val / 8 then Real.exp (score Q K i (512 + j)) else 0 : ℝ) : EReal) := by
  pointwise [wA0, q0, nodes1, rows]
  rw [maskA0_apply]
  exact (congrArg (fun z : EReal => FloatOps.exp2 (F := Ideal) (φ := .f32)
    (Scalar.select (if j.val < i.val / 8 then 1#1 else 0#1) z (masked : Ideal .f32) * (c2 : Ideal .f32) : EReal))
    (dot hq hk i (512 + j) (by omega) (by omega))).trans (weight_select _ _)

/-- The weights of a leaf's siblings. -/
theorem wS0_apply (g : Fin 64) (r s : Fin 8) :
    wS0 q k (ix3 g r s) = ((if s.val ≤ r.val then Real.exp (score Q K (g * 8 + r) (g * 8 + s)) else 0 : ℝ) : EReal) := by
  pointwise [wS0, q0, rows]
  rw [maskS_apply]
  exact (congrArg (fun z : EReal => FloatOps.exp2 (F := Ideal) (φ := .f32)
    (Scalar.select (if s.val ≤ r.val then 1#1 else 0#1) z (masked : Ideal .f32) * (c2 : Ideal .f32) : EReal))
    (dot hq hk (g * 8 + r) (g * 8 + s) (by omega) (by omega))).trans (weight_select _ _)

include hv

/-- The mean over the nodes above a leaf. -/
theorem anc0_apply (i : Fin 512) (d : Fin 128) : anc0 q k v (ix2 i d) = mean Q K i (ancSel0 i) V d := by
  pointwise [anc0, sink, nodes1, rows]
  simp only [wA0_apply hq hk, exp0_apply hq hk, cntA0_apply, hv]
  exact masked_mean _ (fun s : Fin 64 => s.val < i.val / 8) (fun s => 512 + s) _ (card_lt64 _ (by omega)) V d _ (fun _ => rfl) _ rfl

/-- The mean over a leaf's siblings. -/
theorem sib0_apply (i : Fin 512) (d : Fin 128) : sib0 q k v (ix2 i d) = mean Q K i (sibSel 0 i) V d := by
  pointwise [sib0, eS0, sink, nodes1, rows, q0]
  simp only [wS0_apply hq hk, exp0_apply hq hk, cntS_apply, hv]
  have h := Nat.div_add_mod' i.val 8
  simp only [h]
  unfold sibSel
  simp only [Nat.zero_add]
  exact masked_mean _ (fun s : Fin 8 => s.val ≤ i.val % 8) (fun s => i.val / 8 * 8 + s) _ (card_le8 _ (by omega)) V d _ (fun _ => rfl) _ rfl

/-- The leaves' new values. -/
theorem out0_apply (i : Fin 512) (d : Fin 128) : out0 q k v (ix2 i d) = new0 Q K V i d := by
  pointwise [out0]
  rw [anc0_apply hq hk hv, sib0_apply hq hk hv, three_eq]
  rfl

/-! ### Level 1 -/

omit hv
/-- The sink's weight at a node of level 1. -/
theorem exp1_apply (i : Fin 64) (u : Fin 1) : exp1 q k (ix2 i u) = ((Real.exp (score Q K (512 + i) 0) : ℝ) : EReal) := by
  pointwise [exp1, nodes1, sink, rows]
  exact (congrArg (fun z : EReal => FloatOps.exp2 (F := Ideal) (φ := .f32) (z * (c2 : Ideal .f32) : EReal))
    (dot hq hk (512 + i) 0 (by omega) (by omega))).trans (weight _)

/-- The weights of the nodes above. -/
theorem wA1_apply (i : Fin 64) (j : Fin 8) :
    wA1 q k (ix2 i j) = ((if j.val < i.val / 8 then Real.exp (score Q K (512 + i) (576 + j)) else 0 : ℝ) : EReal) := by
  pointwise [wA1, nodes1, nodes2, rows]
  rw [maskA1_apply]
  exact (congrArg (fun z : EReal => FloatOps.exp2 (F := Ideal) (φ := .f32)
    (Scalar.select (if j.val < i.val / 8 then 1#1 else 0#1) z (masked : Ideal .f32) * (c2 : Ideal .f32) : EReal))
    (dot hq hk (512 + i) (576 + j) (by omega) (by omega))).trans (weight_select _ _)

/-- The weights of the siblings. -/
theorem wS1_apply (g r s : Fin 8) :
    wS1 q k (ix3 g r s) = ((if s.val ≤ r.val then Real.exp (score Q K (512 + (g * 8 + r)) (512 + (g * 8 + s))) else 0 : ℝ) : EReal) := by
  pointwise [wS1, nodes1, rows]
  rw [maskS_apply]
  exact (congrArg (fun z : EReal => FloatOps.exp2 (F := Ideal) (φ := .f32)
    (Scalar.select (if s.val ≤ r.val then 1#1 else 0#1) z (masked : Ideal .f32) * (c2 : Ideal .f32) : EReal))
    (dot hq hk (512 + (g * 8 + r)) (512 + (g * 8 + s)) (by omega) (by omega))).trans (weight_select _ _)

/-- The weight of the first child. -/
theorem wC1_apply (i : Fin 64) (u : Fin 1) : wC1 q k (ix2 i u) = ((Real.exp (score Q K (512 + i) (0 + i * 8)) : ℝ) : EReal) := by
  rw [Nat.zero_add]
  pointwise [wC1, nodes1, heads0, q0, rows]
  exact (congrArg (fun z : EReal => FloatOps.exp2 (F := Ideal) (φ := .f32) (z * (c2 : Ideal .f32) : EReal))
    (dot hq hk (512 + i) (i * 8) (by omega) (by omega))).trans (weight _)

variable {o : FVec Ideal S512x128 .f32} (ho : ∀ (i : Fin 512) d, o (ix2 i d) = new0 Q K V i d)
include hv ho

omit hq hk hv in
/-- The leaves' new values are those of the table after the first level. -/
theorem vals1_leaf (n : ℕ) (h : n < 512) (d : Fin 128) : o (ix2 ⟨n, h⟩ d) = vals1 Q K V n d := by
  rw [ho, vals1, if_pos h]

omit hq hk hv ho in
/-- Above the leaves the table is as given. -/
theorem vals1_above (n : ℕ) (h : 512 ≤ n) (d : Fin 128) : V n d = vals1 Q K V n d := by
  rw [vals1, if_neg (by omega)]

/-- The mean over the nodes above. -/
theorem anc1_apply (i : Fin 64) (d : Fin 128) : anc1 q k v o (ix2 i d) = mean Q K (512 + i) (ancSel1 i) (vals1 Q K V) d := by
  pointwise [anc1, sinkOut, nodes2, rows]
  simp only [wA1_apply hq hk, exp1_apply hq hk, cntA1_apply, hv]
  exact masked_mean _ (fun s : Fin 8 => s.val < i.val / 8) (fun s => 576 + s) _ (card_lt8 _ (by omega)) (vals1 Q K V) d _
    (fun s => vals1_above _ (by omega) d) _ (vals1_leaf ho 0 (by omega) d)

/-- The mean over the siblings. -/
theorem sib1_apply (i : Fin 64) (d : Fin 128) : sib1 q k v o (ix2 i d) = mean Q K (512 + i) (sibSel 512 i) (vals1 Q K V) d := by
  pointwise [sib1, eS1, sinkOut, nodes1, rows]
  simp only [wS1_apply hq hk, exp1_apply hq hk, cntS_apply, hv]
  have h := Nat.div_add_mod' i.val 8
  simp only [h]
  exact masked_mean _ (fun s : Fin 8 => s.val ≤ i.val % 8) (fun s => 512 + (i.val / 8 * 8 + s)) _ (card_le8 _ (by omega)) (vals1 Q K V) d _
    (fun s => vals1_above _ (by omega) d) _ (vals1_leaf ho 0 (by omega) d)

omit hv in
/-- The mean over the children. -/
theorem child1_apply (i : Fin 64) (d : Fin 128) : child1 q k o (ix2 i d) = mean Q K (512 + i) (childSel 0 i) (vals1 Q K V) d := by
  pointwise [child1, sinkOut, heads0]
  rw [wC1_apply hq hk, exp1_apply hq hk, seven_eq]
  exact first_mean _ 0 i (vals1 Q K V) d _ _ ((vals1_leaf ho (i * 8) (by omega) d).trans (by rw [Nat.zero_add])) (vals1_leaf ho 0 (by omega) d)

/-- The new values of level 1. -/
theorem out1_apply (i : Fin 64) (d : Fin 128) : out1 q k v o (ix2 i d) = new1 Q K V i d := by
  pointwise [out1]
  rw [anc1_apply hq hk hv ho, sib1_apply hq hk hv ho, child1_apply hq hk ho, three_eq]
  rfl

/-! ### Level 2 -/

omit hv ho
/-- The sink's weight at a node of level 2. -/
theorem exp2_apply (i : Fin 8) (u : Fin 1) : exp2' q k (ix2 i u) = ((Real.exp (score Q K (576 + i) 0) : ℝ) : EReal) := by
  pointwise [exp2', nodes2, sink, rows]
  exact (congrArg (fun z : EReal => FloatOps.exp2 (F := Ideal) (φ := .f32) (z * (c2 : Ideal .f32) : EReal))
    (dot hq hk (576 + i) 0 (by omega) (by omega))).trans (weight _)

/-- The weights of the siblings. -/
theorem wS2_apply (r s : Fin 8) :
    wS2 q k (ix2 r s) = ((if s.val ≤ r.val then Real.exp (score Q K (576 + r) (576 + s)) else 0 : ℝ) : EReal) := by
  pointwise [wS2, nodes2, rows]
  rw [maskS_apply]
  exact (congrArg (fun z : EReal => FloatOps.exp2 (F := Ideal) (φ := .f32)
    (Scalar.select (if s.val ≤ r.val then 1#1 else 0#1) z (masked : Ideal .f32) * (c2 : Ideal .f32) : EReal))
    (dot hq hk (576 + r) (576 + s) (by omega) (by omega))).trans (weight_select _ _)

/-- The weight of the first child. -/
theorem wC2_apply (i : Fin 8) (u : Fin 1) : wC2 q k (ix2 i u) = ((Real.exp (score Q K (576 + i) (512 + i * 8)) : ℝ) : EReal) := by
  pointwise [wC2, nodes1, nodes2, heads1, rows]
  exact (congrArg (fun z : EReal => FloatOps.exp2 (F := Ideal) (φ := .f32) (z * (c2 : Ideal .f32) : EReal))
    (dot hq hk (576 + i) (512 + i * 8) (by omega) (by omega))).trans (weight _)

variable {o1 : FVec Ideal S64x128 .f32} (ho1 : ∀ (i : Fin 64) d, o1 (ix2 i d) = new1 Q K V i d)
include hv ho ho1

omit hq hk hv ho in
/-- The new values of level 1 are those of the table after the second level. -/
theorem vals2_level1 (n : ℕ) (h : n < 64) (d : Fin 128) : o1 (ix2 ⟨n, h⟩ d) = vals2 Q K V (512 + n) d := by
  rw [ho1, vals2, if_pos (by omega), Nat.add_sub_cancel_left]

omit hq hk hv ho1 in
/-- The sink's value does not change after the first level. -/
theorem vals2_sink (d : Fin 128) : o (ix2 0 d) = vals2 Q K V 0 d := by
  rw [vals2, if_neg (by omega)]; exact vals1_leaf ho 0 (by omega) d

omit hq hk hv ho ho1 in
/-- Above level 1 the table is as given. -/
theorem vals2_above (n : ℕ) (h : 576 ≤ n) (d : Fin 128) : V n d = vals2 Q K V n d := by
  rw [vals2, if_neg (by omega)]; exact vals1_above n (by omega) d

omit ho1 in
/-- The mean over the siblings. -/
theorem sib2_apply (i : Fin 8) (d : Fin 128) : sib2 q k v o (ix2 i d) = mean Q K (576 + i) (sibSel 576 i) (vals2 Q K V) d := by
  pointwise [sib2, eS2, sinkOut, nodes2, rows]
  simp only [wS2_apply hq hk, exp2_apply hq hk, cntS_apply, hv]
  have h1 : i.val % 8 = i.val := by omega
  have h2 : ∀ s, i.val / 8 * 8 + s = s := by omega
  unfold sibSel
  simp only [h1, h2]
  exact masked_mean _ (fun s : Fin 8 => s.val ≤ i.val) (fun s => 576 + s.val) _ (card_le8 _ (by omega)) (vals2 Q K V) d _
    (fun s => vals2_above _ (by omega) d) _ (vals2_sink ho d)

omit hv in
/-- The mean over the children. -/
theorem child2_apply (i : Fin 8) (d : Fin 128) : child2 q k o o1 (ix2 i d) = mean Q K (576 + i) (childSel 512 i) (vals2 Q K V) d := by
  pointwise [child2, sinkOut, heads1]
  rw [wC2_apply hq hk, exp2_apply hq hk, seven_eq]
  exact first_mean _ 512 i (vals2 Q K V) d _ _ (vals2_level1 ho1 (i * 8) (by omega) d) (vals2_sink ho d)

/-- The new values of level 2: a mean over the sink alone is its value. -/
theorem out2_apply (i : Fin 8) (d : Fin 128) : out2 q k v o o1 (ix2 i d) = new2 Q K V i d := by
  pointwise [out2, sinkOut]
  rw [sib2_apply hq hk hv ho, child2_apply hq hk ho ho1, three_eq, new2]
  have h : mean Q K (576 + i) ancSel2 (vals2 Q K V) d = vals2 Q K V 0 d := attn_const _ _
  rw [h, ← vals2_sink ho d]

/-! ### The root -/

omit hv ho ho1
/-- The sink's weight at the root. -/
theorem exp3_apply (i : Fin 1) (u : Fin 1) : exp3 q k (ix2 i u) = ((Real.exp (score Q K 584 0) : ℝ) : EReal) := by
  pointwise [exp3, root, sink, rows]
  exact (congrArg (fun z : EReal => FloatOps.exp2 (F := Ideal) (φ := .f32) (z * (c2 : Ideal .f32) : EReal))
    (dot hq hk 584 0 (by omega) (by omega))).trans (weight _)

/-- The weight of the first child. -/
theorem wC3_apply (i : Fin 1) (u : Fin 1) : wC3 q k (ix2 i u) = ((Real.exp (score Q K 584 (576 + 0 * 8)) : ℝ) : EReal) := by
  pointwise [wC3, root, rows]
  exact (congrArg (fun z : EReal => FloatOps.exp2 (F := Ideal) (φ := .f32) (z * (c2 : Ideal .f32) : EReal))
    (dot hq hk 584 (576 + 0 * 8) (by omega) (by omega))).trans (weight _)

variable {o2 : FVec Ideal S8x128 .f32} (ho2 : ∀ (i : Fin 8) d, o2 (ix2 i d) = new2 Q K V i d)
include hv ho ho2

omit hq hk hv ho in
/-- The new values of level 2 are those of the table after the third level. -/
theorem vals3_level2 (n : ℕ) (h : n < 8) (d : Fin 128) : o2 (ix2 ⟨n, h⟩ d) = vals3 Q K V (576 + n) d := by
  rw [ho2, vals3, if_pos (by omega), Nat.add_sub_cancel_left]

omit hq hk hv ho2 in
/-- The sink's value does not change after the first level. -/
theorem vals3_sink (d : Fin 128) : o (ix2 0 d) = vals3 Q K V 0 d := by
  rw [vals3, if_neg (by omega)]; exact vals2_sink ho d

omit hv in
/-- The mean over the children. -/
theorem child3_apply (i : Fin 1) (d : Fin 128) : child3 q k o o2 (ix2 i d) = mean Q K 584 (childSel 576 0) (vals3 Q K V) d := by
  pointwise [child3, sinkOut]
  rw [wC3_apply hq hk, exp3_apply hq hk, seven_eq]
  exact first_mean _ 576 0 (vals3 Q K V) d _ _ (vals3_level2 ho2 0 (by omega) d) (vals3_sink ho d)

/-- The root's new value: a mean over the root alone is its value. -/
theorem out3_apply (i : Fin 1) (d : Fin 128) : out3 q k v o o2 (ix2 i d) = new3 Q K V d := by
  pointwise [out3, root]
  rw [child3_apply hq hk ho ho2, three_eq, new3]
  have h : mean Q K 584 sibSel3 (vals3 Q K V) d = vals3 Q K V 584 d := attn_const _ _
  rw [h, vals3, if_neg (by omega), ← vals2_above 584 (by omega), ← hv 584 (by omega)]
  rfl

/-! ### The head -/

omit ho ho1 ho2
/-- The head's rows: the leaves' part. -/
theorem out0_vals4 (n : ℕ) (h : n < 512) (d : Fin 128) : out0 q k v (ix2 ⟨n, h⟩ d) = vals4 Q K V n d := by
  rw [vals4, if_neg (by omega), vals3, if_neg (by omega), vals2, if_neg (by omega)]
  exact vals1_leaf (out0_apply hq hk hv) n h d

/-- The head's rows: the part above the leaves. -/
theorem upper_vals4 (n : ℕ) (h : n < 73) (d : Fin 128) : upper q k v (ix2 ⟨n, h⟩ d) = vals4 Q K V (512 + n) d := by
  have ho := out0_apply hq hk hv
  have ho1 := out1_apply hq hk hv ho
  have ho2 := out2_apply hq hk hv ho ho1
  have ho3 := out3_apply hq hk hv ho ho2
  pointwise [upper]
  rw [vals4, vals3, vals2, vals1]
  split
  · refine (ho1 _ d).trans ?_
    show new1 Q K V n d = _
    rw [if_neg (by omega), if_neg (by omega), if_pos (by omega), Nat.add_sub_cancel_left]
  · split
    · refine (ho2 _ d).trans ?_
      show new2 Q K V (n - 64) d = _
      rw [if_neg (by omega), if_pos (by omega)]
      exact congrArg (fun z => new2 Q K V z d) (by show n - 64 = 512 + n - 576; omega)
    · refine (ho3 _ d).trans ?_
      rw [if_pos (by omega)]

end Tree.Kernel

end
-- ==== Proof.KernelValue.lean ====
/- The array the kernel leaves: each grid point writes four heads, the four points cover the sixteen heads, and the result is
   the attention of each head of the arguments. -/
module

public import proofs.«01_k».proof.Proof.KernelBlock
public import proofs.«01_k».proof.Proof.KernelRead

@[expose] public section

set_option maxRecDepth 16384

noncomputable section

namespace Tree.Kernel

open Idealize.ShloMosaic Idealize.ShloMosaic.TcCoe
open Idealize.SL.Sem
open Cert.KernelIdeal Cert.KernelIdeal.Gen

/-! ### One block -/

/-- Row `n` of head `b`. -/
theorem head_apply (x : Vec Ideal S4x585x128 .f32) (b : ℕ) (h : b < 4) (n : Fin 585) (d : Fin 128) :
    head x b h (ix2 n d) = x (ix3 ⟨b, h⟩ n d) := by
  unfold head rows
  rw [View.ld_unit]
  pointwise []

/-- A unit axis added before the leaves' rows. -/
theorem leaf_cast (x : FVec Ideal S512x128 .f32) (n : Fin 512) (d : Fin 128) :
    shapeCast S1x512x128 x shapeCasts_S512x128_S1x512x128 (ix3 (0 : Fin 1) n d) = x (ix2 n d) := by
  pointwise []

/-- A unit axis added before the other rows. -/
theorem upper_cast (x : FVec Ideal S73x128 .f32) (n : Fin 73) (d : Fin 128) :
    shapeCast S1x73x128 x shapeCasts_S73x128_S1x73x128 (ix3 (0 : Fin 1) n d) = x (ix2 n d) := by
  pointwise []

/-- The block a point writes, of its three input blocks. -/
def blockOut (x0 x1 x2 : Vec Ideal S4x585x128 .f32) : Vec Ideal S4x585x128 .f32 := fun y =>
  headOut (fun n d => x0 (ix3 (y 0) n d)) (fun n d => x1 (ix3 (y 0) n d)) (fun n d => x2 (ix3 (y 0) n d)) (y 1) (y 2)

variable (x0 x1 x2 : Vec Ideal S4x585x128 .f32) (h0 : ∀ y, x0 y ≠ (⊤ : EReal) ∧ x0 y ≠ (⊥ : EReal))
  (h1 : ∀ y, x1 y ≠ (⊤ : EReal) ∧ x1 y ≠ (⊥ : EReal))
include h0 h1

/-- What is stored of the leaves is the block at their rows. -/
theorem leaf_payload (b : ℕ) (h : b < 4) (j : (leafPiece x0 x1 x2 b h).1.shape.Idx) :
    (leafPiece x0 x1 x2 b h).2 j = blockOut x0 x1 x2 ((leafPiece x0 x1 x2 b h).1.emb j) := by
  have hn : (j 1).val < 512 := (j 1).isLt
  have hj : j = ix3 (0 : Fin 1) (j 1 : Fin 512) (j 2 : Fin 128) := by
    funext a; fin_cases a
    · exact Subsingleton.elim (α := Fin 1) _ _
    · rfl
    · rfl
  have he : (leafPiece x0 x1 x2 b h).1.emb j = ix3 (⟨b, h⟩ : Fin 4) (⟨j 1, by omega⟩ : Fin 585) (j 2 : Fin 128) := by
    funext a; apply Fin.ext; rw [Rect.emb_apply]; fin_cases a
    · have : (j 0).val < 1 := (j 0).isLt
      show b + 1 * (j 0).val = b; omega
    · show 0 + 1 * (j 1).val = (j 1).val; omega
    · show 0 + 1 * (j 2).val = (j 2).val; omega
  rw [he]
  refine (congrArg _ hj).trans ?_
  refine Eq.trans (leaf_cast (out0 (head x0 b h) (head x1 b h) (head x2 b h)) (j 1 : Fin 512) (j 2 : Fin 128) : _) ?_
  exact out0_vals4 (q := head x0 b h) (k := head x1 b h) (v := head x2 b h)
    (fun n hn d => (head_apply x0 b h ⟨n, hn⟩ d).trans (rowsOf_real (A := fun n d => x0 (ix3 ⟨b, h⟩ n d)) (fun _ _ => h0 _) n hn d))
    (fun n hn d => (head_apply x1 b h ⟨n, hn⟩ d).trans (rowsOf_real (A := fun n d => x1 (ix3 ⟨b, h⟩ n d)) (fun _ _ => h1 _) n hn d))
    (fun n hn d => (head_apply x2 b h ⟨n, hn⟩ d).trans (rowsOf_apply (fun n d => x2 (ix3 ⟨b, h⟩ n d)) n hn d)) (j 1).val hn (j 2)

/-- What is stored of the levels above is the block at their rows. -/
theorem upper_payload (b : ℕ) (h : b < 4) (j : (upperPiece x0 x1 x2 b h).1.shape.Idx) :
    (upperPiece x0 x1 x2 b h).2 j = blockOut x0 x1 x2 ((upperPiece x0 x1 x2 b h).1.emb j) := by
  have hn : (j 1).val < 73 := (j 1).isLt
  have hj : j = ix3 (0 : Fin 1) (j 1 : Fin 73) (j 2 : Fin 128) := by
    funext a; fin_cases a
    · exact Subsingleton.elim (α := Fin 1) _ _
    · rfl
    · rfl
  have he : (upperPiece x0 x1 x2 b h).1.emb j = ix3 (⟨b, h⟩ : Fin 4) (⟨512 + j 1, by omega⟩ : Fin 585) (j 2 : Fin 128) := by
    funext a; apply Fin.ext; rw [Rect.emb_apply]; fin_cases a
    · have : (j 0).val < 1 := (j 0).isLt
      show b + 1 * (j 0).val = b; omega
    · show 512 + 1 * (j 1).val = 512 + (j 1).val; omega
    · show 0 + 1 * (j 2).val = (j 2).val; omega
  rw [he]
  refine (congrArg _ hj).trans ?_
  refine Eq.trans (upper_cast (upper (head x0 b h) (head x1 b h) (head x2 b h)) (j 1 : Fin 73) (j 2 : Fin 128) : _) ?_
  exact upper_vals4 (q := head x0 b h) (k := head x1 b h) (v := head x2 b h)
    (fun n hn d => (head_apply x0 b h ⟨n, hn⟩ d).trans (rowsOf_real (A := fun n d => x0 (ix3 ⟨b, h⟩ n d)) (fun _ _ => h0 _) n hn d))
    (fun n hn d => (head_apply x1 b h ⟨n, hn⟩ d).trans (rowsOf_real (A := fun n d => x1 (ix3 ⟨b, h⟩ n d)) (fun _ _ => h1 _) n hn d))
    (fun n hn d => (head_apply x2 b h ⟨n, hn⟩ d).trans (rowsOf_apply (fun n d => x2 (ix3 ⟨b, h⟩ n d)) n hn d)) (j 1).val hn (j 2)

omit h0 h1 in
/-- Every place of a block is in one of its eight stores. -/
theorem covered (y : S4x585x128.Idx) : ∃ p ∈ pieces x0 x1 x2, y ∈ p.1.set := by
  have e0 : (y 0).val < 4 := (y 0).isLt
  have e1 : (y 1).val < 585 := (y 1).isLt
  have e2 : (y 2).val < 128 := (y 2).isLt
  have leaf : ∀ b h, (y 0).val = b → (y 1).val < 512 → y ∈ (leafPiece x0 x1 x2 b h).1.set := by
    intro b h hb hn
    refine (Rect.mem_set_unit (inb := leafInb b h)).mpr fun a => ?_
    fin_cases a
    · show b ≤ (y 0).val ∧ (y 0).val < b + 1; omega
    · show 0 ≤ (y 1).val ∧ (y 1).val < 0 + 512; omega
    · show 0 ≤ (y 2).val ∧ (y 2).val < 0 + 128; omega
  have upper : ∀ b h, (y 0).val = b → 512 ≤ (y 1).val → y ∈ (upperPiece x0 x1 x2 b h).1.set := by
    intro b h hb hn
    refine (Rect.mem_set_unit (inb := upperInb b h)).mpr fun a => ?_
    fin_cases a
    · show b ≤ (y 0).val ∧ (y 0).val < b + 1; omega
    · show 512 ≤ (y 1).val ∧ (y 1).val < 512 + 73; omega
    · show 0 ≤ (y 2).val ∧ (y 2).val < 0 + 128; omega
  unfold pieces
  rcases Nat.lt_or_ge (y 1).val 512 with hn | hn
  · have : ∀ b h, (y 0).val = b → y ∈ (leafPiece x0 x1 x2 b h).1.set := fun b h hb => leaf b h hb hn
    obtain hb | hb | hb | hb : (y 0).val = 0 ∨ (y 0).val = 1 ∨ (y 0).val = 2 ∨ (y 0).val = 3 := by omega
    all_goals exact ⟨_, by simp only [List.mem_cons, true_or, or_true], this _ (by decide) hb⟩
  · have : ∀ b h, (y 0).val = b → y ∈ (upperPiece x0 x1 x2 b h).1.set := fun b h hb => upper b h hb hn
    obtain hb | hb | hb | hb : (y 0).val = 0 ∨ (y 0).val = 1 ∨ (y 0).val = 2 ∨ (y 0).val = 3 := by omega
    all_goals exact ⟨_, by simp only [List.mem_cons, true_or, or_true], this _ (by decide) hb⟩

/-- So a point's stores leave the block. -/
theorem canon_eq : View.canon (pieces x0 x1 x2) = blockOut x0 x1 x2 := by
  funext y
  refine View.canon_apply_of_pieces (blockOut x0 x1 x2) _ (fun p hp j => ?_) y (covered x0 x1 x2 y)
  unfold pieces at hp
  simp only [List.mem_cons, List.mem_nil_iff, or_false] at hp
  rcases hp with rfl | rfl | rfl | rfl | rfl | rfl | rfl | rfl
  · exact upper_payload x0 x1 x2 h0 h1 3 (by decide) j
  · exact leaf_payload x0 x1 x2 h0 h1 3 (by decide) j
  · exact upper_payload x0 x1 x2 h0 h1 2 (by decide) j
  · exact leaf_payload x0 x1 x2 h0 h1 2 (by decide) j
  · exact upper_payload x0 x1 x2 h0 h1 1 (by decide) j
  · exact leaf_payload x0 x1 x2 h0 h1 1 (by decide) j
  · exact upper_payload x0 x1 x2 h0 h1 0 (by decide) j
  · exact leaf_payload x0 x1 x2 h0 h1 0 (by decide) j

end Tree.Kernel

end
-- ==== Proof.KernelRun.lean ====
/- The kernel's run, read: its result is the attention of each head of the arguments, which it leaves as they were. -/
module

public import proofs.«01_k».proof.Proof.KernelValue

@[expose] public section

set_option maxRecDepth 16384

noncomputable section

namespace Tree.Kernel

open Idealize.ShloMosaic Idealize.ShloMosaic.TcCoe
open Idealize.SL.Sem
open Cert.KernelIdeal Cert.KernelIdeal.Gen

variable (m : (ℓ : Loc nD τ sig) → Buf (Elt Ideal) ℓ) (ρ : Dev nD → PrngReg)

/-! ### Where a point's blocks lie -/

theorem index0 : ∀ t : Fin cfg0.N, win0_0.index t (0 : Fin 3) = t.val ∧ win0_0.index t (1 : Fin 3) = 0 ∧ win0_0.index t (2 : Fin 3) = 0 :=
  (by decide +kernel : ∀ t : Fin grid0.N, _)
theorem index1 : ∀ t : Fin cfg0.N, win0_1.index t (0 : Fin 3) = t.val ∧ win0_1.index t (1 : Fin 3) = 0 ∧ win0_1.index t (2 : Fin 3) = 0 :=
  (by decide +kernel : ∀ t : Fin grid0.N, _)
theorem index2 : ∀ t : Fin cfg0.N, win0_2.index t (0 : Fin 3) = t.val ∧ win0_2.index t (1 : Fin 3) = 0 ∧ win0_2.index t (2 : Fin 3) = 0 :=
  (by decide +kernel : ∀ t : Fin grid0.N, _)
theorem index3 : ∀ t : Fin cfg0.N, win0_3.index t (0 : Fin 3) = t.val ∧ win0_3.index t (1 : Fin 3) = 0 ∧ win0_3.index t (2 : Fin 3) = 0 :=
  (by decide +kernel : ∀ t : Fin grid0.N, _)

theorem points (t : Fin cfg0.N) : t.val < 4 := lt_of_lt_of_eq t.isLt (by decide +kernel : grid0.N = 4)

/-- The place in its array of an element of a point's block: head `b` of point `t` is head `4 t + b`. -/
def place (t : Fin cfg0.N) (j : S4x585x128.Idx) : S16x585x128.Idx :=
  ix3 (⟨t.val * 4 + (j 0).val, by have := points t; have : (j 0).val < 4 := (j 0).isLt; omega⟩ : Fin 16) (j 1 : Fin 585) (j 2 : Fin 128)

theorem emb0 (t : Fin cfg0.N) (j : S4x585x128.Idx) : ((cfg0.win 0).blk t).view.emb j = place t j := by
  obtain ⟨e0, e1, e2⟩ := index0 t
  funext a; apply Fin.ext
  fin_cases a
  · show win0_0.index t (0 : Fin 3) * 4 + 1 * (j 0).val = t.val * 4 + (j 0).val; omega
  · show win0_0.index t (1 : Fin 3) * 585 + 1 * (j 1).val = (j 1).val; omega
  · show win0_0.index t (2 : Fin 3) * 128 + 1 * (j 2).val = (j 2).val; omega
theorem emb1 (t : Fin cfg0.N) (j : S4x585x128.Idx) : ((cfg0.win 1).blk t).view.emb j = place t j := by
  obtain ⟨e0, e1, e2⟩ := index1 t
  funext a; apply Fin.ext
  fin_cases a
  · show win0_1.index t (0 : Fin 3) * 4 + 1 * (j 0).val = t.val * 4 + (j 0).val; omega
  · show win0_1.index t (1 : Fin 3) * 585 + 1 * (j 1).val = (j 1).val; omega
  · show win0_1.index t (2 : Fin 3) * 128 + 1 * (j 2).val = (j 2).val; omega
theorem emb2 (t : Fin cfg0.N) (j : S4x585x128.Idx) : ((cfg0.win 2).blk t).view.emb j = place t j := by
  obtain ⟨e0, e1, e2⟩ := index2 t
  funext a; apply Fin.ext
  fin_cases a
  · show win0_2.index t (0 : Fin 3) * 4 + 1 * (j 0).val = t.val * 4 + (j 0).val; omega
  · show win0_2.index t (1 : Fin 3) * 585 + 1 * (j 1).val = (j 1).val; omega
  · show win0_2.index t (2 : Fin 3) * 128 + 1 * (j 2).val = (j 2).val; omega
theorem emb3 (t : Fin cfg0.N) (j : S4x585x128.Idx) : ((cfg0.win 3).blk t).view.emb j = place t j := by
  obtain ⟨e0, e1, e2⟩ := index3 t
  funext a; apply Fin.ext
  fin_cases a
  · show win0_3.index t (0 : Fin 3) * 4 + 1 * (j 0).val = t.val * 4 + (j 0).val; omega
  · show win0_3.index t (1 : Fin 3) * 585 + 1 * (j 1).val = (j 1).val; omega
  · show win0_3.index t (2 : Fin 3) * 128 + 1 * (j 2).val = (j 2).val; omega

/-- Every place of the array is in some point's block. -/
theorem place_onto (i : S16x585x128.Idx) : ∃ t j, place t j = i := by
  have e0 : (i 0).val < 16 := (i 0).isLt
  refine ⟨⟨(i 0).val / 4, lt_of_lt_of_eq (by omega) (by decide +kernel : 4 = grid0.N)⟩,
    ix3 (⟨(i 0).val % 4, by omega⟩ : Fin 4) (i 1 : Fin 585) (i 2 : Fin 128), ?_⟩
  funext a; apply Fin.ext
  fin_cases a
  · show (i 0).val / 4 * 4 + (i 0).val % 4 = (i 0).val; omega
  · rfl
  · rfl

/-! ### The array after the run -/

/-- The attention of sixteen heads. -/
def heads (X0 X1 X2 : Vec Ideal S16x585x128 .f32) : Vec Ideal S16x585x128 .f32 := fun y =>
  headOut (fun n d => X0 (ix3 (y 0) n d)) (fun n d => X1 (ix3 (y 0) n d)) (fun n d => X2 (ix3 (y 0) n d)) (y 1) (y 2)

/-- The attention of a point's block is the point's block of the attention. -/
theorem heads_place (X0 X1 X2 : Vec Ideal S16x585x128 .f32) (t : Fin cfg0.N) :
    blockOut (fun j => X0 (place t j)) (fun j => X1 (place t j)) (fun j => X2 (place t j)) = fun j => heads X0 X1 X2 (place t j) := rfl

variable (h0 : ∀ (c : Dev nD) y, V m c main_v0 y ≠ (⊤ : EReal) ∧ V m c main_v0 y ≠ (⊥ : EReal))
  (h1 : ∀ (c : Dev nD) y, V m c main_v1 y ≠ (⊤ : EReal) ∧ V m c main_v1 y ≠ (⊥ : EReal))

theorem iblk0 (c : Dev nD) (t : Fin cfg0.N) : iblk m c 0 t = fun j => V m c main_v0 (place t j) := by
  funext j; show V m c main_v0 (((cfg0.win 0).blk t).view.emb j) = _; rw [emb0]
theorem iblk1 (c : Dev nD) (t : Fin cfg0.N) : iblk m c 1 t = fun j => V m c main_v1 (place t j) := by
  funext j; show V m c main_v1 (((cfg0.win 1).blk t).view.emb j) = _; rw [emb1]
theorem iblk2 (c : Dev nD) (t : Fin cfg0.N) : iblk m c 2 t = fun j => V m c main_v2 (place t j) := by
  funext j; show V m c main_v2 (((cfg0.win 2).blk t).view.emb j) = _; rw [emb2]

include h0 h1 in
/-- What a point writes back is its block of the attention. -/
theorem flushed_eq (c : Dev nD) (t : Fin cfg0.N) :
    (dats m 0 c).flushed 3 t
      = ((cfg0.win 3).blk t).view.read (Elt Ideal) (heads (V m c main_v0) (V m c main_v1) (V m c main_v2)) := by
  show (cfg0.win 3).cut (grid0.coords t) ((dats m 0 c).after 3 t) = _
  rw [after0_3, outs_eq, iblk0, iblk1, iblk2, canon_eq _ _ _ (fun _ => h0 c _) (fun _ => h1 c _), heads_place]
  funext j
  show heads _ _ _ (place t j) = heads _ _ _ (((cfg0.win 3).blk t).view.emb j)
  rw [emb3]

/-- The points' blocks cover the array. -/
theorem blocks_cover (i : S16x585x128.Idx) : ∃ t : Fin cfg0.N, (cfg0.win 3).flush t = true ∧ i ∈ ((cfg0.win 3).blk t).view.set := by
  obtain ⟨t, j, rfl⟩ := place_onto i
  exact ⟨t, flush0_3 t, by have h := ((cfg0.win 3).blk t).view.emb_mem_set j; rwa [emb3] at h⟩

include h0 h1 in
/-- The kernel's array after the run. -/
theorem array_eq (c : Dev nD) : (dats m 0 c).arrAt 3 cfg0.N = heads (V m c main_v0) (V m c main_v1) (V m c main_v2) :=
  (dats m 0 c).arrAt_eq_of_cover 3 _ (fun t _ => flushed_eq m h0 h1 c t) blocks_cover

/-! ### The reshapes around the kernel -/

/-- The kernel's operands are the arguments, reshaped. -/
theorem V_v0 (c : Dev nD) : V m c main_v0 = shapeCast S16x585x128 (m ((c : Thread nD τ).loc main_arg0)) shapeCasts_S4x4x585x128_S16x585x128 := by
  show StableHlo.after hostOps0 (fun b => m (c, b)) (Proc.devRef .tc main_v0) = _
  rw [StableHlo.after_cons, StableHlo.after_cons, StableHlo.after_cons, StableHlo.after_nil,
    StableHlo.reshape_result_ne _ _ _ _ _ _ _ (by decide), StableHlo.reshape_result_ne _ _ _ _ _ _ _ (by decide), StableHlo.reshape_result]
  rfl

theorem V_v1 (c : Dev nD) : V m c main_v1 = shapeCast S16x585x128 (m ((c : Thread nD τ).loc main_arg1)) shapeCasts_S4x4x585x128_S16x585x128 := by
  show StableHlo.after hostOps0 (fun b => m (c, b)) (Proc.devRef .tc main_v1) = _
  rw [StableHlo.after_cons, StableHlo.after_cons, StableHlo.after_cons, StableHlo.after_nil,
    StableHlo.reshape_result_ne _ _ _ _ _ _ _ (by decide), StableHlo.reshape_result, StableHlo.reshape_result_ne _ _ _ _ _ _ _ (by decide)]
  rfl

theorem V_v2 (c : Dev nD) : V m c main_v2 = shapeCast S16x585x128 (m ((c : Thread nD τ).loc main_arg2)) shapeCasts_S4x4x585x128_S16x585x128 := by
  show StableHlo.after hostOps0 (fun b => m (c, b)) (Proc.devRef .tc main_v2) = _
  rw [StableHlo.after_cons, StableHlo.after_cons, StableHlo.after_cons, StableHlo.after_nil, StableHlo.reshape_result,
    StableHlo.reshape_result_ne _ _ _ _ _ _ _ (by decide), StableHlo.reshape_result_ne _ _ _ _ _ _ _ (by decide)]
  rfl

/-- The program's result is the kernel's array, reshaped. -/
theorem result_eq (c : Dev nD) : Pipeline.afterTail₀ cfgs (dats m) 0 (V0 m) [hostOps1] c main_v4
    = shapeCast S4x4x585x128 ((dats m 0 c).arrAt 3 cfg0.N) shapeCasts_S16x585x128_S4x4x585x128 := by
  unfold Pipeline.afterTail₀
  rw [List.flatten_cons, List.flatten_nil, List.append_nil, StableHlo.after_cons, StableHlo.after_nil, StableHlo.reshape_result]
  have h : Pipeline.withArrays (cfgs 0).spec c (V0 m c) (fun w => (dats m 0 c).arrAt w (cfgs 0).N) (Proc.devRef .tc main_v3)
      = (dats m 0 c).arrAt 3 cfg0.N :=
    Pipeline.withArrays_arr spec0 (by decide) c (V0 m c) (fun w => (dats m 0 c).arrAt w cfg0.N) 3
  rw [← h]
  generalize Pipeline.withArrays (cfgs 0).spec c (V0 m c) (fun w => (dats m 0 c).arrAt w (cfgs 0).N) = W
  rfl

/-! ### The run -/

/-- Sixteen heads read as four by four. -/
theorem heads_cast (A0 A1 A2 : Vec Ideal S4x4x585x128 .f32) :
    shapeCast S4x4x585x128 (heads (shapeCast S16x585x128 A0 shapeCasts_S4x4x585x128_S16x585x128)
        (shapeCast S16x585x128 A1 shapeCasts_S4x4x585x128_S16x585x128)
        (shapeCast S16x585x128 A2 shapeCasts_S4x4x585x128_S16x585x128)) shapeCasts_S16x585x128_S4x4x585x128
      = attention A0 A1 A2 := by
  have cast (A : Vec Ideal S4x4x585x128 .f32) (b h : Fin 4) (n : Fin 585) (d : Fin 128) :
      shapeCast S16x585x128 A shapeCasts_S4x4x585x128_S16x585x128 (ix3 (⟨b.val * 4 + h.val, by omega⟩ : Fin 16) n d) = A (ix4 b h n d) := by
    pointwise []
  have back (X : Vec Ideal S16x585x128 .f32) (b h : Fin 4) (n : Fin 585) (d : Fin 128) :
      shapeCast S4x4x585x128 X shapeCasts_S16x585x128_S4x4x585x128 (ix4 b h n d) = X (ix3 (⟨b.val * 4 + h.val, by omega⟩ : Fin 16) n d) := by
    pointwise []
  refine attention_ext fun b h n d => ?_
  rw [back]
  show headOut (fun n d => shapeCast S16x585x128 A0 shapeCasts_S4x4x585x128_S16x585x128 (ix3 (⟨b.val * 4 + h.val, by omega⟩ : Fin 16) n d))
    (fun n d => shapeCast S16x585x128 A1 shapeCasts_S4x4x585x128_S16x585x128 (ix3 (⟨b.val * 4 + h.val, by omega⟩ : Fin 16) n d))
    (fun n d => shapeCast S16x585x128 A2 shapeCasts_S4x4x585x128_S16x585x128 (ix3 (⟨b.val * 4 + h.val, by omega⟩ : Fin 16) n d)) n d = _
  simp only [cast]
  rfl

/-- From finite queries and keys the kernel's program ends with the attention of its arguments, which it leaves as they were. -/
theorem run (h0 : ∀ (c : Dev nD) y, (m ((c : Thread nD τ).loc main_arg0) : Vec Ideal S4x4x585x128 .f32) y ≠ (⊤ : EReal)
      ∧ (m ((c : Thread nD τ).loc main_arg0) : Vec Ideal S4x4x585x128 .f32) y ≠ (⊥ : EReal))
    (h1 : ∀ (c : Dev nD) y, (m ((c : Thread nD τ).loc main_arg1) : Vec Ideal S4x4x585x128 .f32) y ≠ (⊤ : EReal)
      ∧ (m ((c : Thread nD τ).loc main_arg1) : Vec Ideal S4x4x585x128 .f32) y ≠ (⊥ : EReal)) :
    θ_run defs (onTc (τ := τ) (main (F := Ideal))) ⟨m, fun _ => 0, ρ⟩ fun r => ∀ c : Dev nD,
      r.2.mem ((c : Thread nD τ).loc main_v4) = attention (m ((c : Thread nD τ).loc main_arg0))
          (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨?_, ?_, ?_, ?_⟩) (run_main m ρ)
  · refine ((h c).2 main_v4 (by decide)).trans ((result_eq m c).trans ?_)
    rw [array_eq m (fun c y => by rw [V_v0]; exact h0 c _) (fun c y => by rw [V_v1]; exact h1 c _), V_v0, V_v1, V_v2, heads_cast]
  · exact ((h c).2 main_arg0 (by decide)).trans (W_main_arg0 m _ c)
  · exact ((h c).2 main_arg1 (by decide)).trans (W_main_arg1 m _ c)
  · exact ((h c).2 main_arg2 (by decide)).trans (W_main_arg2 m _ c)

end Tree.Kernel

end
-- ==== Proof.RefSel.lean ====
/- The reference's tables of selected rows: each place of each table holds the number of the row it names. -/
module

public import proofs.«01_k».proof.Proof.Gen.ReferenceIdeal.Read
public import proofs.«01_k».proof.Proof.Spec

@[expose] public section

noncomputable section

namespace Tree.Ref

open Idealize.ShloMosaic Cert.ReferenceIdeal Cert.ReferenceIdeal.Gen Cert.ReferenceIdeal.Read

/-- The literals of the tables: 1, 8, 64 and 512. -/
theorem bits1 : Ideal.ofBits .f32 0x3F800000#32 = (((1 : ℕ) : ℝ) : EReal) := by
  simp [Ideal.ofBits, Ideal.ieee, -EReal.coe_mul]; norm_num
theorem bits8 : Ideal.ofBits .f32 0x41000000#32 = (((8 : ℕ) : ℝ) : EReal) := by
  simp [Ideal.ofBits, Ideal.ieee, -EReal.coe_mul]; norm_num
theorem bits64 : Ideal.ofBits .f32 0x42800000#32 = (((64 : ℕ) : ℝ) : EReal) := by
  simp [Ideal.ofBits, Ideal.ieee, -EReal.coe_mul]; norm_num
theorem bits512 : Ideal.ofBits .f32 0x44000000#32 = (((512 : ℕ) : ℝ) : EReal) := by
  simp [Ideal.ofBits, Ideal.ieee, -EReal.coe_mul]; norm_num

/-- Two fractions of words compare as their cross products do. -/
theorem frac_le {w w' P Q : BitVec 32} {p q : ℕ} (hP : Ideal.ofBits .f32 P = ((p : ℝ) : EReal)) (hQ : Ideal.ofBits .f32 Q = ((q : ℝ) : EReal))
    (p0 : 0 < p) (q0 : 0 < q) :
    Ideal.div (FloatOps.sitofp (F := Ideal) .f32 w) (Ideal.ofBits .f32 P) ≤ Ideal.div (FloatOps.sitofp (F := Ideal) .f32 w') (Ideal.ofBits .f32 Q)
      ↔ w.toInt * q ≤ w'.toInt * p := by
  have p1 : (0 : ℝ) < p := by exact_mod_cast p0
  have q1 : (0 : ℝ) < q := by exact_mod_cast q0
  have e : ∀ v : BitVec 32, FloatOps.sitofp (F := Ideal) .f32 v = (((v.toInt : ℤ) : ℝ) : EReal) := fun v => rfl
  rw [hP, hQ, e, e, div_real _ p1.ne', div_real _ q1.ne', ← EReal.coe_mul, ← EReal.coe_mul, EReal.coe_le_coe_iff,
    inv_mul_eq_div, inv_mul_eq_div, div_le_div_iff₀ p1 q1]
  exact_mod_cast Iff.rfl

/-- A place that is a row's number where one fraction is at most another, and the sink's elsewhere. -/
theorem pick {w w' A P Q : BitVec 32} {p q n : ℕ} {c : Prop} [Decidable c]
    {inst : Decidable (Ideal.div (FloatOps.sitofp (F := Ideal) .f32 w) (Ideal.ofBits .f32 P)
      ≤ Ideal.div (FloatOps.sitofp (F := Ideal) .f32 w') (Ideal.ofBits .f32 Q))}
    (hP : Ideal.ofBits .f32 P = ((p : ℝ) : EReal)) (hQ : Ideal.ofBits .f32 Q = ((q : ℝ) : EReal)) (p0 : 0 < p) (q0 : 0 < q)
    (hc : w.toInt * q ≤ w'.toInt * p ↔ c) (hA : c → A = BitVec.ofNat 32 n) :
    @ite _ (Ideal.div (FloatOps.sitofp (F := Ideal) .f32 w) (Ideal.ofBits .f32 P)
      ≤ Ideal.div (FloatOps.sitofp (F := Ideal) .f32 w') (Ideal.ofBits .f32 Q)) inst A 0#32 = BitVec.ofNat 32 (if c then n else 0) := by
  by_cases h : c
  · rw [if_pos ((frac_le hP hQ p0 q0).2 (hc.2 h)), if_pos h, hA h]
  · rw [if_neg fun h' => h (hc.1 ((frac_le hP hQ p0 q0).1 h')), if_neg h]

/-- A small number's word, read back. -/
theorem toInt_small {n : ℕ} (h : n < 1024) : (BitVec.ofNat 32 n).toInt = n := by
  have : ∀ n : Fin 1024, (BitVec.ofNat 32 n.val).toInt = n.val := by decide +kernel
  exact this ⟨n, h⟩

/-- Words of numbers are added as the numbers are. -/
theorem add_small (a b : ℕ) : IntOp.addi (BitVec.ofNat 32 a) (BitVec.ofNat 32 b) = BitVec.ofNat 32 (a + b) :=
  (BitVec.ofNat_add a b).symm

/-- Words of numbers are multiplied as the numbers are. -/
theorem mul_small (a b : ℕ) : IntOp.muli (BitVec.ofNat 32 a) (BitVec.ofNat 32 b) = BitVec.ofNat 32 (a * b) :=
  (BitVec.ofNat_mul a b).symm

/-- The smaller of a small number's word and a bound it keeps. -/
theorem min_small {a b : ℕ} (h : a ≤ b) (hb : b < 1024) : IntOp.minsi (BitVec.ofNat 32 a) (BitVec.ofNat 32 b) = BitVec.ofNat 32 a := by
  unfold IntOp.minsi
  have h1 := toInt_small (n := a) (by omega)
  have h2 := toInt_small hb
  rcases Nat.lt_or_eq_of_le h with h3 | h3
  · rw [if_pos (by simp only [BitVec.slt, h1, h2]; exact decide_eq_true (by exact_mod_cast h3))]
  · subst h3; rw [ite_self]

/-- A number's place under its parent, as the tables write it. -/
theorem under_small {a s b : ℕ} (h : a * 8 + s ≤ b) (hb : b < 1024) :
    IntOp.minsi (IntOp.addi (IntOp.muli (BitVec.ofNat 32 a) 8#32) (BitVec.ofNat 32 s)) (BitVec.ofNat 32 b) = BitVec.ofNat 32 (a * 8 + s) := by
  rw [mul_small, add_small, min_small h hb]

/-- Division by 8 rounded down, as the tables write it: the quotient, less one where the signs differ and a rest is left. -/
def floor8 (w : BitVec 32) : BitVec 32 :=
  Scalar.select
    (IntOp.andi
      (IntOp.cmpi .ne (if w = 0 then 0 else if w.msb = true then -1 else 1) (if (8#32) = 0 then 0 else if (8#32).msb = true then -1 else (1 : BitVec 32)))
      (IntOp.cmpi .ne (IntOp.remsi .host w 8#32) 0#32))
    (IntOp.subi (IntOp.divsi .host w 8#32) 1#32) (IntOp.divsi .host w 8#32)

/-- Of a small number it is the number's quotient. -/
theorem floor8_small {n : ℕ} (h : n < 512) : floor8 (BitVec.ofNat 32 n) = BitVec.ofNat 32 (n / 8) := by
  have : ∀ n : Fin 512, floor8 (BitVec.ofNat 32 n.val) = BitVec.ofNat 32 (n.val / 8) := by decide +kernel
  exact this ⟨n, h⟩

/-- A place whose fraction is that of the number after it: the row it names. -/
theorem place_above {i s base p q n : ℕ} {P Q : BitVec 32} {c : Prop} [Decidable c]
    {inst : Decidable (Ideal.div (FloatOps.sitofp (F := Ideal) .f32 (IntOp.addi (BitVec.ofNat 32 s) 1#32)) (Ideal.ofBits .f32 P)
      ≤ Ideal.div (FloatOps.sitofp (F := Ideal) .f32 (BitVec.ofNat 32 i)) (Ideal.ofBits .f32 Q))}
    (hP : Ideal.ofBits .f32 P = ((p : ℝ) : EReal)) (hQ : Ideal.ofBits .f32 Q = ((q : ℝ) : EReal)) (p0 : 0 < p) (q0 : 0 < q)
    (hi : i < 1024) (hs : s < 512) (hc : (s + 1) * q ≤ i * p ↔ c) (hn : base + s = n) :
    @ite _ (Ideal.div (FloatOps.sitofp (F := Ideal) .f32 (IntOp.addi (BitVec.ofNat 32 s) 1#32)) (Ideal.ofBits .f32 P)
      ≤ Ideal.div (FloatOps.sitofp (F := Ideal) .f32 (BitVec.ofNat 32 i)) (Ideal.ofBits .f32 Q)) inst
      (IntOp.addi (BitVec.ofNat 32 base) (BitVec.ofNat 32 s)) 0#32 = BitVec.ofNat 32 (if c then n else 0) := by
  refine pick hP hQ p0 q0 ?_ fun _ => by rw [add_small, hn]
  rw [add_small s 1, toInt_small (by omega), toInt_small hi, ← hc]
  exact_mod_cast Iff.rfl

/-- A place whose fraction is its own number's: the row it names. -/
theorem place_at {i r base p q n : ℕ} {P Q : BitVec 32} {c : Prop} [Decidable c]
    {inst : Decidable (Ideal.div (FloatOps.sitofp (F := Ideal) .f32 (BitVec.ofNat 32 r)) (Ideal.ofBits .f32 P)
      ≤ Ideal.div (FloatOps.sitofp (F := Ideal) .f32 (BitVec.ofNat 32 i)) (Ideal.ofBits .f32 Q))}
    (hP : Ideal.ofBits .f32 P = ((p : ℝ) : EReal)) (hQ : Ideal.ofBits .f32 Q = ((q : ℝ) : EReal)) (p0 : 0 < p) (q0 : 0 < q)
    (hi : i < 1024) (hr : r < 1024) (hc : r * q ≤ i * p ↔ c) (hn : c → base + r = n) :
    @ite _ (Ideal.div (FloatOps.sitofp (F := Ideal) .f32 (BitVec.ofNat 32 r)) (Ideal.ofBits .f32 P)
      ≤ Ideal.div (FloatOps.sitofp (F := Ideal) .f32 (BitVec.ofNat 32 i)) (Ideal.ofBits .f32 Q)) inst
      (IntOp.addi (BitVec.ofNat 32 base) (BitVec.ofNat 32 r)) 0#32 = BitVec.ofNat 32 (if c then n else 0) := by
  refine pick hP hQ p0 q0 ?_ fun h => by rw [add_small, hn h]
  rw [toInt_small hr, toInt_small hi, ← hc]
  exact_mod_cast Iff.rfl

/-- The places above a leaf. -/
theorem anc0 (i : Fin 512) (s : Fin 64) : val_main_v17 (F := Ideal) (ix2 i s) = BitVec.ofNat 32 (ancSel0 i s) := by
  have hi := i.isLt
  have hs := s.isLt
  pointwise [val_main_v17, val_main_v14, val_main_call0_v1, val_main_call0_v2, val_main_v12, val_main_v13, val_main_v16, val_main_call0_v0,
      val_main_v8, val_main_v11, val_main_v15, val_main_v3, val_main_c_2, val_main_v6, val_main_v7, val_main_v9, val_main_v10,
      val_main_c_1, val_main_v2, val_main_v5, val_main_cst, val_main_v1, val_main_cst_0, val_main_v4, val_main_v0, val_main_c]
  exact place_above bits64 bits512 (by decide) (by decide) (by omega) (by omega) (by omega) rfl

/-- The number of a leaf's parent. -/
theorem parent0 (i : Fin 512) : val_main_v20 (F := Ideal) (ix2 i 0) = BitVec.ofNat 32 (i / 8) := by
  have hi := i.isLt
  pointwise [val_main_v20, val_main_call1_v11, val_main_call1_v13, val_main_call1_v2, val_main_call1_v6, val_main_call1_v10, val_main_call1_v12,
      val_main_v1, val_main_call1_v1, val_main_call1_v3, val_main_call1_v5, val_main_call1_v8, val_main_call1_v9, val_main_call1_c_0,
      val_main_v0, val_main_call1_v0, val_main_call1_v4, val_main_call1_v7, val_main_call1_c, val_main_c_3]
  exact floor8_small (by omega)

/-- The numbers of a leaf's siblings. -/
theorem rel0 (i : Fin 512) (s : Fin 8) : val_main_v27 (F := Ideal) (ix2 i s) = BitVec.ofNat 32 (i / 8 * 8 + s) := by
  have hi := i.isLt
  have hs := s.isLt
  pointwise [val_main_v27, val_main_v25, val_main_v26, val_main_v23, val_main_v24, val_main_c_5, val_main_v22, val_main_v19, val_main_v21,
      val_main_v18, val_main_c_4]
  rw [parent0]
  exact under_small (b := 511) (by omega) (by omega)

/-- A leaf's sibling places. -/
theorem sib0 (i : Fin 512) (s : Fin 8) : val_main_v38 (F := Ideal) (ix2 i s) = BitVec.ofNat 32 (sibSel 0 i s) := by
  have hi := i.isLt
  have hs := s.isLt
  pointwise [val_main_v38, val_main_v35, val_main_v37, val_main_call2_v1, val_main_v30, val_main_v34, val_main_v36, val_main_call2_v0, val_main_v28,
      val_main_v29, val_main_v33, val_main_c_8, val_main_c_9, val_main_cst_6, val_main_v31, val_main_v32, val_main_v1, val_main_cst_7,
      val_main_v0]
  rw [rel0]
  exact place_at bits512 bits512 (by decide) (by decide) (by omega) (by omega) (by omega) (fun _ => rfl)

/-- The places above a node of level 1. -/
theorem anc1 (i : Fin 64) (s : Fin 8) : val_main_v125 (F := Ideal) (ix2 i s) = BitVec.ofNat 32 (ancSel1 i s) := by
  have hi := i.isLt
  have hs := s.isLt
  pointwise [val_main_v125, val_main_v122, val_main_call3_v1, val_main_call3_v2, val_main_v120, val_main_v121, val_main_v124, val_main_call3_v0,
      val_main_v116, val_main_v119, val_main_v123, val_main_v111, val_main_c_33, val_main_v114, val_main_v115, val_main_v117,
      val_main_v118, val_main_c_32, val_main_v110, val_main_v113, val_main_cst_30, val_main_v109, val_main_cst_31, val_main_v112,
      val_main_v108, val_main_c_29]
  exact place_above bits8 bits64 (by decide) (by decide) (by omega) (by omega) (by omega) rfl

/-- The number of a level-1 node's parent. -/
theorem parent1 (i : Fin 64) : val_main_v128 (F := Ideal) (ix2 i 0) = BitVec.ofNat 32 (i / 8) := by
  have hi := i.isLt
  pointwise [val_main_v128, val_main_call4_v11, val_main_call4_v13, val_main_call4_v2, val_main_call4_v6, val_main_call4_v10, val_main_call4_v12,
      val_main_v109, val_main_call4_v1, val_main_call4_v3, val_main_call4_v5, val_main_call4_v8, val_main_call4_v9, val_main_call4_c_0,
      val_main_v108, val_main_call4_v0, val_main_call4_v4, val_main_call4_v7, val_main_call4_c, val_main_c_34]
  exact floor8_small (by omega)

/-- The numbers of a level-1 node's siblings. -/
theorem rel1 (i : Fin 64) (s : Fin 8) : val_main_v135 (F := Ideal) (ix2 i s) = BitVec.ofNat 32 (i / 8 * 8 + s) := by
  have hi := i.isLt
  have hs := s.isLt
  pointwise [val_main_v135, val_main_v133, val_main_v134, val_main_v131, val_main_v132, val_main_c_36, val_main_v130, val_main_v127, val_main_v129,
      val_main_v126, val_main_c_35]
  rw [parent1]
  exact under_small (b := 63) (by omega) (by omega)

/-- A level-1 node's sibling places. -/
theorem sib1 (i : Fin 64) (s : Fin 8) : val_main_v146 (F := Ideal) (ix2 i s) = BitVec.ofNat 32 (sibSel 512 i s) := by
  have hi := i.isLt
  have hs := s.isLt
  pointwise [val_main_v146, val_main_v143, val_main_v145, val_main_call5_v1, val_main_v138, val_main_v142, val_main_v144, val_main_call5_v0,
      val_main_v136, val_main_v137, val_main_v141, val_main_c_39, val_main_c_40, val_main_cst_37, val_main_v139, val_main_v140,
      val_main_v109, val_main_cst_38, val_main_v108]
  rw [rel1]
  exact place_at bits64 bits64 (by decide) (by decide) (by omega) (by omega) (by omega) (fun _ => rfl)

/-- The numbers of a level-1 node's children. -/
theorem under1 (i : Fin 64) (s : Fin 8) : val_main_v153 (F := Ideal) (ix2 i s) = BitVec.ofNat 32 (i * 8 + s) := by
  have hi := i.isLt
  have hs := s.isLt
  pointwise [val_main_v153, val_main_v151, val_main_v152, val_main_v149, val_main_v150, val_main_c_42, val_main_v148, val_main_v127, val_main_v109,
      val_main_v147, val_main_v126, val_main_v108, val_main_c_41]
  exact under_small (b := 511) (by omega) (by omega)

/-- A level-1 node's child places. -/
theorem child1 (i : Fin 64) (s : Fin 8) : val_main_v164 (F := Ideal) (ix2 i s) = BitVec.ofNat 32 (childSel 0 i s) := by
  have hi := i.isLt
  have hs := s.isLt
  pointwise [val_main_v164, val_main_v161, val_main_v163, val_main_call6_v1, val_main_v156, val_main_v160, val_main_v162, val_main_call6_v0,
      val_main_v154, val_main_v155, val_main_v159, val_main_c_45, val_main_c_46, val_main_cst_43, val_main_v157, val_main_v158,
      val_main_v109, val_main_cst_44, val_main_v108]
  rw [under1]
  exact place_at bits512 bits64 (by decide) (by decide) (by omega) (by omega) (by omega) (fun h => by subst h; rfl)

end Tree.Ref

end
-- ==== Proof.RefOps.lean ====
/- Three of the reference's operations read at a place — rows gathered by number, a range of rows replaced, softmax of real
   scores —, each at any number of rows. -/
module

public import proofs.«01_k».proof.Proof.RefSel
public import Idealize.ShloMosaic.Lib.Routing.OpsSet

@[expose] public section

set_option maxRecDepth 16384

noncomputable section

namespace Tree.Ref

open Idealize.ShloMosaic
open scoped BigOperators

/-- The dimension numbers of `x[:, :, table, :]`, a table of `S` rows for each of `N`. -/
abbrev takeRows (N S : ℕ)
    (wf : GatherDims.WF ⟨4, ![4, 4, 585, 128]⟩ ⟨3, ![N, S, 1]⟩ ⟨5, ![4, 4, N, S, 128]⟩ [0, 1, 4] [2] [] [2] [] 2 ![4, 4, 1, 128]) :
    GatherDims ⟨4, ![4, 4, 585, 128]⟩ ⟨3, ![N, S, 1]⟩ ⟨5, ![4, 4, N, S, 128]⟩ where
  offsetDims := [0, 1, 4]
  collapsedSliceDims := [2]
  operandBatchingDims := []
  startIndicesBatchingDims := []
  startIndexMap := [2]
  indexVectorDim := 2
  sliceSizes := ![4, 4, 1, 128]
  wf := wf

/-- Rows gathered by number: where the table holds the word of `n`, the row read is `n`. -/
theorem gather_row {N S n : ℕ}
    (wf : GatherDims.WF ⟨4, ![4, 4, 585, 128]⟩ ⟨3, ![N, S, 1]⟩ ⟨5, ![4, 4, N, S, 128]⟩ [0, 1, 4] [2] [] [2] [] 2 ![4, 4, 1, 128])
    (x : (⟨4, ![4, 4, 585, 128]⟩ : Shape).Idx → EReal) (idx : IVec ⟨3, ![N, S, 1]⟩ 32) (b g : Fin 4) (i : Fin N) (s : Fin S) (d : Fin 128)
    (hn : n < 585) (h : idx (ix3 i s 0) = BitVec.ofNat 32 n) :
    Host.gather (takeRows N S wf) x idx (ix5 b g i s d) = x (ix4 b g ⟨n, hn⟩ d) := by
  unfold Host.gather
  congr 1
  have e2 : (takeRows N S wf).start (ix5 b g i s d) idx 2 = n := by
    unfold GatherDims.start
    rw [dif_pos (show (2 : Fin 4) ∈ (takeRows N S wf).startIndexMap from List.mem_singleton.mpr rfl)]
    have hsi : (takeRows N S wf).siIdx (ix5 b g i s d) ⟨List.idxOf (2 : Fin 4) (takeRows N S wf).startIndexMap,
        List.idxOf_lt_length_iff.2 (List.mem_singleton.mpr rfl)⟩ = ix3 i s 0 := by
      funext a; refine Fin.ext ?_
      match a with
      | ⟨0, _⟩ => rfl
      | ⟨1, _⟩ => rfl
      | ⟨2, _⟩ => rfl
    rw [hsi, h, toInt_small (by omega)]
    show min ((n : ℤ)).toNat (585 - 1) = n
    omega
  funext a
  refine Fin.ext ?_
  show (takeRows N S wf).start (ix5 b g i s d) idx a + (takeRows N S wf).batchCoord (ix5 b g i s d) a
    + (takeRows N S wf).offCoord (ix5 b g i s d) a = _
  rw [GatherDims.batchCoord_eq_zero _ _ _ List.not_mem_nil]
  have e0 : ∀ a : Fin 4, a ≠ 2 → (takeRows N S wf).start (ix5 b g i s d) idx a = 0 := fun a ha => by
    unfold GatherDims.start
    rw [dif_neg fun h => ha (List.mem_singleton.mp h)]
  match a with
  | ⟨0, _⟩ => exact (congrArg (· + 0 + _) (e0 0 (by decide))).trans (Nat.zero_add _)
  | ⟨1, _⟩ => exact (congrArg (· + 0 + _) (e0 1 (by decide))).trans (Nat.zero_add _)
  | ⟨2, _⟩ => exact (congrArg (· + 0 + _) e2).trans rfl
  | ⟨3, _⟩ => exact (congrArg (· + 0 + _) (e0 3 (by decide))).trans (Nat.zero_add _)

/-- A table's word, as the program wraps a negative one: a number is itself. -/
theorem wrap_small {n : ℕ} (h : n < 585) :
    Scalar.select (IntOp.cmpi .slt (BitVec.ofNat 32 n) 0#32) (IntOp.addi (BitVec.ofNat 32 n) 585#32) (BitVec.ofNat 32 n) = BitVec.ofNat 32 n := by
  have : ∀ n : Fin 585, Scalar.select (IntOp.cmpi .slt (BitVec.ofNat 32 n.val) 0#32) (IntOp.addi (BitVec.ofNat 32 n.val) 585#32)
      (BitVec.ofNat 32 n.val) = BitVec.ofNat 32 n.val := by decide +kernel
  exact this ⟨n, h⟩

/-- The dimension numbers of `x.at[:, :, base : base + N, :].set(u)`. -/
abbrev putRows (N : ℕ) (wf : ScatterDims.WF ⟨4, ![4, 4, 585, 128]⟩ ⟨1, ![1]⟩ ⟨4, ![4, 4, N, 128]⟩ [0, 1, 2, 3] [] [2] 0) :
    ScatterDims ⟨4, ![4, 4, 585, 128]⟩ ⟨1, ![1]⟩ ⟨4, ![4, 4, N, 128]⟩ where
  updateWindowDims := [0, 1, 2, 3]
  insertedWindowDims := []
  scatterDimsToOperandDims := [2]
  indexVectorDim := 0
  wf := wf

/-- Where the update's element `k` lands: its own place, its row moved by the base. -/
theorem put_at {N base : ℕ} (hb : base < 1024)
    (wf : ScatterDims.WF ⟨4, ![4, 4, 585, 128]⟩ ⟨1, ![1]⟩ ⟨4, ![4, 4, N, 128]⟩ [0, 1, 2, 3] [] [2] 0)
    (idx : IVec ⟨1, ![1]⟩ 32) (h : idx (ix1 0) = BitVec.ofNat 32 base) (k : (⟨4, ![4, 4, N, 128]⟩ : Shape).Idx) (b g : Fin 4) (n : Fin 585) (d : Fin 128) :
    (putRows N wf).resultIdx? k idx = some (ix4 b g n d)
      ↔ (k 0).val = b.val ∧ (k 1).val = g.val ∧ base + (k 2).val = n.val ∧ (k 3).val = d.val := by
  rw [Routing.resultIdx?_eq_some]
  have e2 : (putRows N wf).start k idx 2 = base := by
    unfold ScatterDims.start
    rw [dif_pos (show (2 : Fin 4) ∈ (putRows N wf).scatterDimsToOperandDims from List.mem_singleton.mpr rfl)]
    have hsi : (putRows N wf).siIdx k ⟨List.idxOf (2 : Fin 4) (putRows N wf).scatterDimsToOperandDims,
        List.idxOf_lt_length_iff.2 (List.mem_singleton.mpr rfl)⟩ = ix1 0 := by
      funext a; refine Fin.ext ?_
      match a with
      | ⟨0, _⟩ => rfl
    rw [hsi, h, toInt_small hb]
  have e0 : ∀ a : Fin 4, a ≠ 2 → (putRows N wf).start k idx a = 0 := fun a ha => by
    unfold ScatterDims.start
    rw [dif_neg fun h => ha (List.mem_singleton.mp h)]
  constructor
  · intro H
    have h0 := H 0; have h1 := H 1; have h2 := H 2; have h3 := H 3
    rw [e0 0 (by decide)] at h0; rw [e0 1 (by decide)] at h1; rw [e2] at h2; rw [e0 3 (by decide)] at h3
    change (0 : ℤ) + ((k 0).val : ℤ) = (b.val : ℤ) at h0
    change (0 : ℤ) + ((k 1).val : ℤ) = (g.val : ℤ) at h1
    change (base : ℤ) + ((k 2).val : ℤ) = (n.val : ℤ) at h2
    change (0 : ℤ) + ((k 3).val : ℤ) = (d.val : ℤ) at h3
    omega
  · rintro ⟨h0, h1, h2, h3⟩ a
    match a with
    | ⟨0, _⟩ => exact (congrArg (· + _) (e0 0 (by decide))).trans (by show (0 : ℤ) + ((k 0).val : ℤ) = (b.val : ℤ); omega)
    | ⟨1, _⟩ => exact (congrArg (· + _) (e0 1 (by decide))).trans (by show (0 : ℤ) + ((k 1).val : ℤ) = (g.val : ℤ); omega)
    | ⟨2, _⟩ => exact (congrArg (· + _) e2).trans (by show (base : ℤ) + ((k 2).val : ℤ) = (n.val : ℤ); omega)
    | ⟨3, _⟩ => exact (congrArg (· + _) (e0 3 (by decide))).trans (by show (0 : ℤ) + ((k 3).val : ℤ) = (d.val : ℤ); omega)

/-- A range of rows replaced: in the range, the update's row. -/
theorem put_hit {N base : ℕ} (hb : base < 1024)
    (wf : ScatterDims.WF ⟨4, ![4, 4, 585, 128]⟩ ⟨1, ![1]⟩ ⟨4, ![4, 4, N, 128]⟩ [0, 1, 2, 3] [] [2] 0)
    (x : (⟨4, ![4, 4, 585, 128]⟩ : Shape).Idx → EReal) (u : (⟨4, ![4, 4, N, 128]⟩ : Shape).Idx → EReal)
    (idx : IVec ⟨1, ![1]⟩ 32) (h : idx (ix1 0) = BitVec.ofNat 32 base) (b g : Fin 4) (n : Fin 585) (d : Fin 128) (i : Fin N) (hi : base + i.val = n.val) :
    Host.scatter (putRows N wf) (fun _ b => b) x idx u (ix4 b g n d) = u (ix4 b g i d) := by
  refine Routing.scatter_set_hit _ _ _ _ _ _ (fun k hk => congrArg u ?_) (ix4 b g i d) ((put_at hb wf idx h _ _ _ _ _).2 ⟨rfl, rfl, hi, rfl⟩)
  obtain ⟨h0, h1, h2, h3⟩ := (put_at hb wf idx h _ _ _ _ _).1 hk
  funext a
  refine Fin.ext ?_
  match a with
  | ⟨0, _⟩ => exact h0
  | ⟨1, _⟩ => exact h1
  | ⟨2, _⟩ => show (k 2).val = i.val; omega
  | ⟨3, _⟩ => exact h3

/-- Off the range, the row that was there. -/
theorem put_miss {N base : ℕ} (hb : base < 1024)
    (wf : ScatterDims.WF ⟨4, ![4, 4, 585, 128]⟩ ⟨1, ![1]⟩ ⟨4, ![4, 4, N, 128]⟩ [0, 1, 2, 3] [] [2] 0)
    (x : (⟨4, ![4, 4, 585, 128]⟩ : Shape).Idx → EReal) (u : (⟨4, ![4, 4, N, 128]⟩ : Shape).Idx → EReal)
    (idx : IVec ⟨1, ![1]⟩ 32) (h : idx (ix1 0) = BitVec.ofNat 32 base) (b g : Fin 4) (n : Fin 585) (d : Fin 128)
    (hn : n.val < base ∨ base + N ≤ n.val) :
    Host.scatter (putRows N wf) (fun _ b => b) x idx u (ix4 b g n d) = x (ix4 b g n d) := by
  refine Routing.scatter_set_miss _ _ _ _ _ fun k hk => ?_
  have h2 := ((put_at hb wf idx h _ _ _ _ _).1 hk).2.2.1
  have h3 : (k 2).val < N := (k 2).isLt
  omega

/-- The root of 128, as the program makes it. -/
theorem root128 : Ideal.sqrt (Ideal.ofBits .f32 1124073472#32) = ((√128 : ℝ) : EReal) := by
  have : Ideal.ofBits .f32 1124073472#32 = ((128 : ℝ) : EReal) := by
    simp [Ideal.ofBits, Ideal.ieee, -EReal.coe_mul]; norm_num
  rw [this, Ideal.sqrt_coe, if_neg (by norm_num)]

theorem negInf : Ideal.ofBits .f32 4286578688#32 = ⊥ := by simp [Ideal.ofBits, Ideal.ieee]

/-- The largest of real scores, from −∞ on, is a real. -/
theorem max_real {ι : Type} [Fintype ι] [Nonempty ι] (x : ι → ℝ) :
    ∃ M : ℝ, Finset.fold max (Ideal.ofBits .f32 4286578688#32) (fun s => (x s : EReal)) Finset.univ = (M : EReal) := by
  rw [negInf]
  refine ⟨_, (EReal.coe_toReal ?_ ?_).symm⟩
  · exact ((Finset.fold_max_lt ⊤).2 ⟨bot_lt_top, fun s _ => EReal.coe_lt_top _⟩).ne
  · obtain ⟨s⟩ := ‹Nonempty ι›
    exact ((Finset.lt_fold_max ⊥).2 (.inr ⟨s, Finset.mem_univ _, EReal.bot_lt_coe _⟩)).ne'

variable {S : ℕ} [NeZero S] {Q K : ℕ → Fin 128 → ℝ} {n : ℕ} {sel : Fin S → ℕ}

/-- One row's scores: the real inner products over √128. -/
theorem score_read {q : Fin 128 → EReal} {key : Fin 128 → EReal} {j : ℕ} (hq : ∀ d, q d = ((Q n d : ℝ) : EReal))
    (hk : ∀ d, key d = ((K j d : ℝ) : EReal)) :
    Ideal.div (∑ d, q d * key d) (Ideal.sqrt (Ideal.ofBits .f32 1124073472#32)) = ((score Q K n j : ℝ) : EReal) := by
  have h : (√128 : ℝ) ≠ 0 := (Real.sqrt_pos.mpr (by norm_num)).ne'
  simp only [hq, hk]
  rw [root128, div_real _ h]
  simp only [← EReal.coe_mul]
  rw [← coe_sum, ← EReal.coe_mul, score, div_eq_inv_mul]

/-- One row's softmax over the rows its table names: the mean of the mathematics. -/
theorem mean_read {x : Fin S → EReal} {m : EReal} {val : Fin S → EReal} {w : ℕ → Fin 128 → EReal} {d : Fin 128}
    (hx : ∀ s, x s = ((score Q K n (sel s) : ℝ) : EReal))
    (hm : m = Finset.fold max (Ideal.ofBits .f32 4286578688#32) x Finset.univ) (hv : ∀ s, val s = w (sel s) d) :
    ∑ s, Ideal.div (Ideal.exp (x s - max (Ideal.ofBits .f32 4286578688#32) m))
        (∑ s', Ideal.exp (x s' - max (Ideal.ofBits .f32 4286578688#32) m)) * val s = mean Q K n sel w d := by
  obtain ⟨M, hM⟩ := max_real fun s => score Q K n (sel s)
  obtain rfl : x = fun s => ((score Q K n (sel s) : ℝ) : EReal) := funext hx
  obtain rfl : val = fun s => w (sel s) d := funext hv
  rw [hm, hM, negInf, max_eq_right bot_le]
  simp only [← EReal.coe_sub, Ideal.exp_coe]
  rw [← coe_sum]
  exact softmax_eq _ M _

end Tree.Ref

end
-- ==== Proof.RefAttend.lean ====
/- One of the reference's softmax attentions over a table of rows, at any number of rows and any width of the table: at each place
   it is the mean of the mathematics. -/
module

public import proofs.«01_k».proof.Proof.RefOps

@[expose] public section

set_option maxRecDepth 16384

noncomputable section

namespace Tree.Ref

open Idealize.ShloMosaic
open scoped BigOperators

/-- `N` rows of queries, or of results, a head. -/
abbrev rowsS (N : ℕ) : Shape := ⟨4, ![4, 4, N, 128]⟩
/-- A table of `S` rows for each of them, the rows taken out. -/
abbrev takenS (N S : ℕ) : Shape := ⟨5, ![4, 4, N, S, 128]⟩
/-- One score for each place of the table. -/
abbrev scoreS (N S : ℕ) : Shape := ⟨4, ![4, 4, N, S]⟩
/-- One number for each row. -/
abbrev oneS (N : ℕ) : Shape := ⟨3, ![4, 4, N]⟩

/-- The dimension numbers of the scores: each row's query against each row its table names. -/
abbrev scoreDims (N S : ℕ) (wf : DotDims.WF (rowsS N) (takenS N S) (scoreS N S) [3] [4] [] [3] [0, 1, 2] [0, 1, 2]) :
    DotDims (rowsS N) (takenS N S) (scoreS N S) where
  lhsContracting := [3]
  rhsContracting := [4]
  lhsNonContracting := []
  rhsNonContracting := [3]
  lhsBatch := [0, 1, 2]
  rhsBatch := [0, 1, 2]
  wf := wf

/-- The dimension numbers of the mean: each row's weights against the rows its table names. -/
abbrev mixDims (N S : ℕ) (wf : DotDims.WF (scoreS N S) (takenS N S) (rowsS N) [3] [3] [] [4] [0, 1, 2] [0, 1, 2]) :
    DotDims (scoreS N S) (takenS N S) (rowsS N) where
  lhsContracting := [3]
  rhsContracting := [3]
  lhsNonContracting := []
  rhsNonContracting := [4]
  lhsBatch := [0, 1, 2]
  rhsBatch := [0, 1, 2]
  wf := wf

variable {N S : ℕ}

/-- The inner products at a place. -/
theorem dot_scores (wf : DotDims.WF (rowsS N) (takenS N S) (scoreS N S) [3] [4] [] [3] [0, 1, 2] [0, 1, 2])
    (q : FVec Ideal (rowsS N) .f32) (k : FVec Ideal (takenS N S) .f32) (b g : Fin 4) (i : Fin N) (s : Fin S) :
    (Host.dotGeneral (scoreDims N S wf) none q k : FVec Ideal (scoreS N S) .f32) (ix4 b g i s)
      = ∑ d : Fin 128, q (ix4 b g i d) * k (ix5 b g i s d) := by
  simp only [Host.dotGeneral]
  rw [Ideal.dotGeneral_apply, ← Equiv.sum_comp (ValueIdx.contrEquiv1 (scoreDims N S wf) 128 rfl rfl).symm]
  refine Finset.sum_congr rfl fun d _ => ?_
  have hd := ValueIdx.contrEquiv1_symm_val (scoreDims N S wf) 128 rfl rfl d
  congr 1
  · refine congrArg q (funext fun a => Fin.ext ?_)
    match a with
    | ⟨0, _⟩ => rfl
    | ⟨1, _⟩ => rfl
    | ⟨2, _⟩ => rfl
    | ⟨3, _⟩ => exact ((scoreDims N S wf).lhsIdx_val_of_single rfl _ _).trans hd
  · refine congrArg k (funext fun a => Fin.ext ?_)
    match a with
    | ⟨0, _⟩ => rfl
    | ⟨1, _⟩ => rfl
    | ⟨2, _⟩ => rfl
    | ⟨3, _⟩ => rfl
    | ⟨4, _⟩ => exact ((scoreDims N S wf).rhsIdx_val_of_single rfl _ _).trans hd

/-- The weighted sum at a place. -/
theorem dot_mix (wf : DotDims.WF (scoreS N S) (takenS N S) (rowsS N) [3] [3] [] [4] [0, 1, 2] [0, 1, 2])
    (p : FVec Ideal (scoreS N S) .f32) (v : FVec Ideal (takenS N S) .f32) (b g : Fin 4) (i : Fin N) (d : Fin 128) :
    (Host.dotGeneral (mixDims N S wf) none p v : FVec Ideal (rowsS N) .f32) (ix4 b g i d)
      = ∑ s : Fin S, p (ix4 b g i s) * v (ix5 b g i s d) := by
  simp only [Host.dotGeneral]
  rw [Ideal.dotGeneral_apply, ← Equiv.sum_comp (ValueIdx.contrEquiv1 (mixDims N S wf) S rfl rfl).symm]
  refine Finset.sum_congr rfl fun s _ => ?_
  have hs := ValueIdx.contrEquiv1_symm_val (mixDims N S wf) S rfl rfl s
  congr 1
  · refine congrArg p (funext fun a => Fin.ext ?_)
    match a with
    | ⟨0, _⟩ => rfl
    | ⟨1, _⟩ => rfl
    | ⟨2, _⟩ => rfl
    | ⟨3, _⟩ => exact ((mixDims N S wf).lhsIdx_val_of_single rfl _ _).trans hs
  · refine congrArg v (funext fun a => Fin.ext ?_)
    match a with
    | ⟨0, _⟩ => rfl
    | ⟨1, _⟩ => rfl
    | ⟨2, _⟩ => rfl
    | ⟨3, _⟩ => exact ((mixDims N S wf).rhsIdx_val_of_single rfl _ _).trans hs
    | ⟨4, _⟩ => rfl

/-- A row's place with a score's place put in. -/
theorem lift_scores (h : (scoreS N S).Reduces [3] (oneS N)) (b g : Fin 4) (i : Fin N) (s : Fin S) :
    h.lift (ix3 b g i) s = ix4 b g i s := by
  funext a
  refine Fin.ext ?_
  match a with
  | ⟨0, _⟩ => rfl
  | ⟨1, _⟩ => rfl
  | ⟨2, _⟩ => rfl
  | ⟨3, _⟩ => rfl

/-- A row's largest score. -/
theorem max_scores (h' : (scoreS N S).ReducesTo [3] (oneS N)) (h : (scoreS N S).Reduces [3] (oneS N)) (hu : 0 < (⟨0, ![]⟩ : Shape).numel)
    (x : FVec Ideal (scoreS N S) .f32) (init : FVec Ideal ⟨0, ![]⟩ .f32) (b g : Fin 4) (i : Fin N) :
    Host.reduce FloatOps.maximumf x init h' hu (ix3 b g i)
      = Finset.fold max (init (Shape.Idx.first hu)) (fun s : Fin S => x (ix4 b g i s)) Finset.univ := by
  refine (Host.reduce_eq_fold_single max x init h' h hu (ix3 b g i)).trans ?_
  exact congrArg (fun f : Fin S → EReal => Finset.fold max (init (Shape.Idx.first hu)) f Finset.univ)
    (funext fun s => congrArg x (lift_scores h b g i s))

/-- A row's sum. -/
theorem sum_scores (h' : (scoreS N S).ReducesTo [3] (oneS N)) (h : (scoreS N S).Reduces [3] (oneS N)) (hu : 0 < (⟨0, ![]⟩ : Shape).numel)
    (x : FVec Ideal (scoreS N S) .f32) (init : FVec Ideal ⟨0, ![]⟩ .f32) (b g : Fin 4) (i : Fin N) :
    (Host.reduceAdd x init h' hu : FVec Ideal (oneS N) .f32) (ix3 b g i) = init (Shape.Idx.first hu) + ∑ s : Fin S, x (ix4 b g i s) := by
  simp only [Host.reduceAdd, Ideal.hostReduceAdd_def]
  rw [Ideal.hostReduceAdd_single h' h]
  exact congrArg (_ + ·) (Finset.sum_congr rfl fun s _ => congrArg x (lift_scores h b g i s))

/-- A number for each row, spread over the places of its table; the table is wider than one place. -/
theorem spread_wide {N S : ℕ} (hS : S ≠ 1) (h1 : (oneS N).BroadcastsInDim ⟨4, ![4, 4, N, 1]⟩ ![0, 1, 2])
    (h2 : (⟨4, ![4, 4, N, 1]⟩ : Shape).BroadcastsInDim (scoreS N S) ![0, 1, 2, 3]) (m : FVec Ideal (oneS N) .f32) (b g : Fin 4) (i : Fin N) (s : Fin S) :
    broadcastInDim (scoreS N S) ![0, 1, 2, 3] h2 (broadcastInDim ⟨4, ![4, 4, N, 1]⟩ ![0, 1, 2] h1 m) (ix4 b g i s) = m (ix3 b g i) := by
  have one : ∀ {n : ℕ} (c : Fin n), c.val = if n = 1 then 0 else c.val := fun {n} c => by
    split
    · next h => have := c.isLt; omega
    · rfl
  refine (broadcastInDim_apply _ h2 _ (ix4 b g i s) (ix4 b g i (0 : Fin 1)) fun a => ?_).trans
    (broadcastInDim_apply _ h1 m (ix4 b g i (0 : Fin 1)) (ix3 b g i) fun a => ?_)
  · match a with
    | ⟨0, _⟩ => exact one b
    | ⟨1, _⟩ => exact one g
    | ⟨2, _⟩ => exact one i
    | ⟨3, _⟩ => rfl
  · match a with
    | ⟨0, _⟩ => exact one b
    | ⟨1, _⟩ => exact one g
    | ⟨2, _⟩ => exact one i

/-- The conditions on the shapes of one attention. -/
structure Shapes (N S : ℕ) : Prop where
  take : GatherDims.WF ⟨4, ![4, 4, 585, 128]⟩ ⟨3, ![N, S, 1]⟩ (takenS N S) [0, 1, 4] [2] [] [2] [] 2 ![4, 4, 1, 128]
  score : DotDims.WF (rowsS N) (takenS N S) (scoreS N S) [3] [4] [] [3] [0, 1, 2] [0, 1, 2]
  mix : DotDims.WF (scoreS N S) (takenS N S) (rowsS N) [3] [3] [] [4] [0, 1, 2] [0, 1, 2]
  reducesTo : (scoreS N S).ReducesTo [3] (oneS N)
  reduces : (scoreS N S).Reduces [3] (oneS N)
  scalar : 0 < (⟨0, ![]⟩ : Shape).numel
  words : (⟨0, ![]⟩ : Shape).BroadcastsInDim ⟨2, ![N, S]⟩ ![]
  column : (⟨2, ![N, S]⟩ : Shape).BroadcastsInDim ⟨3, ![N, S, 1]⟩ ![0, 1]
  scores : (⟨0, ![]⟩ : Shape).BroadcastsInDim (scoreS N S) ![]
  rows : (⟨0, ![]⟩ : Shape).BroadcastsInDim (oneS N) ![]

/-- A table as the rows are taken by it: a negative word wrapped. -/
def wrapped (h : Shapes N S) (t : IVec ⟨2, ![N, S]⟩ 32) : IVec ⟨3, ![N, S, 1]⟩ 32 :=
  broadcastInDim _ ![0, 1] h.column
    (select (cmpi .slt t (broadcastInDim _ ![] h.words (constantI ⟨0, ![]⟩ 32 0#32)))
      (addi t (broadcastInDim _ ![] h.words (constantI ⟨0, ![]⟩ 32 585#32))) t)

/-- A number's word is not wrapped. -/
theorem wrapped_read (h : Shapes N S) (t : IVec ⟨2, ![N, S]⟩ 32) (i : Fin N) (s : Fin S) {n : ℕ} (hn : n < 585)
    (ht : t (ix2 i s) = BitVec.ofNat 32 n) : wrapped h t (ix3 i s 0) = BitVec.ofNat 32 n := by
  have one : ∀ {n : ℕ} (c : Fin n), c.val = if n = 1 then 0 else c.val := fun {n} c => by
    split
    · next h => have := c.isLt; omega
    · rfl
  refine (broadcastInDim_apply _ h.column _ (ix3 i s (0 : Fin 1)) (ix2 i s) fun a => ?_).trans ?_
  · match a with
    | ⟨0, _⟩ => exact one i
    | ⟨1, _⟩ => exact one s
  · show Scalar.select (IntOp.cmpi .slt (t (ix2 i s)) 0#32) (IntOp.addi (t (ix2 i s)) 585#32) (t (ix2 i s)) = _
    rw [ht, wrap_small hn]

/-- The scores: the queries against the rows the table names, over √128. -/
def scores (h : Shapes N S) (q : FVec Ideal (rowsS N) .f32) (x1 : FVec Ideal ⟨4, ![4, 4, 585, 128]⟩ .f32) (t : IVec ⟨2, ![N, S]⟩ 32) :
    FVec Ideal (scoreS N S) .f32 :=
  Host.divf (Host.dotGeneral (scoreDims N S h.score) none q (Host.gather (takeRows N S h.take) x1 (wrapped h t)))
    (broadcastInDim _ ![] h.scores (Host.sqrt (constant ⟨0, ![]⟩ .f32 0x43000000#32)))

/-- The weights before they are normalised: exponentials of the scores less the row's largest. -/
def weights (h : Shapes N S) (spread : FVec Ideal (oneS N) .f32 → FVec Ideal (scoreS N S) .f32) (x : FVec Ideal (scoreS N S) .f32) :
    FVec Ideal (scoreS N S) .f32 :=
  Host.exp (subf x (spread (maximumf (broadcastInDim _ ![] h.rows (constant ⟨0, ![]⟩ .f32 0xFF800000#32))
    (Host.reduce FloatOps.maximumf x (constant ⟨0, ![]⟩ .f32 0xFF800000#32) h.reducesTo h.scalar))))

/-- One attention over a table: the softmax of the scores, and by it the mean of the rows of `x2` the table names. -/
def attend (h : Shapes N S) (spread : FVec Ideal (oneS N) .f32 → FVec Ideal (scoreS N S) .f32) (q : FVec Ideal (rowsS N) .f32)
    (x1 x2 : FVec Ideal ⟨4, ![4, 4, 585, 128]⟩ .f32) (t : IVec ⟨2, ![N, S]⟩ 32) : FVec Ideal (rowsS N) .f32 :=
  Host.dotGeneral (mixDims N S h.mix) none
    (Host.divf (weights h spread (scores h q x1 t))
      (spread (Host.reduceAdd (weights h spread (scores h q x1 t)) (constant ⟨0, ![]⟩ .f32 0x00000000#32) h.reducesTo h.scalar)))
    (Host.gather (takeRows N S h.take) x2 (wrapped h t))

/-- Read at a place, it is the mean of the mathematics: `Q n` the row's query, `K` the keys, `w` the values, `sel` the rows the table names. -/
theorem attend_read [NeZero S] (h : Shapes N S) {spread : FVec Ideal (oneS N) .f32 → FVec Ideal (scoreS N S) .f32} {q : FVec Ideal (rowsS N) .f32}
    {x1 x2 : FVec Ideal ⟨4, ![4, 4, 585, 128]⟩ .f32} {t : IVec ⟨2, ![N, S]⟩ 32} {b g : Fin 4} {i : Fin N} {d : Fin 128}
    {Q K : ℕ → Fin 128 → ℝ} {w : ℕ → Fin 128 → EReal} {n : ℕ} {sel : Fin S → ℕ}
    (hspread : ∀ m s, spread m (ix4 b g i s) = m (ix3 b g i))
    (hq : ∀ d, q (ix4 b g i d) = ((Q n d : ℝ) : EReal))
    (hk : ∀ m (hm : m < 585) d, x1 (ix4 b g ⟨m, hm⟩ d) = ((K m d : ℝ) : EReal))
    (hv : ∀ m (hm : m < 585) d, x2 (ix4 b g ⟨m, hm⟩ d) = w m d)
    (hsel : ∀ s, sel s < 585) (ht : ∀ s, t (ix2 i s) = BitVec.ofNat 32 (sel s)) :
    attend h spread q x1 x2 t (ix4 b g i d) = mean Q K n sel w d := by
  have hrow : ∀ (x : FVec Ideal ⟨4, ![4, 4, 585, 128]⟩ .f32) (s : Fin S) (d : Fin 128),
      Host.gather (takeRows N S h.take) x (wrapped h t) (ix5 b g i s d) = x (ix4 b g ⟨sel s, hsel s⟩ d) := fun x s d =>
    gather_row h.take x _ b g i s d (hsel s) (wrapped_read h t i s (hsel s) (ht s))
  have hx : ∀ s, scores h q x1 t (ix4 b g i s) = ((score Q K n (sel s) : ℝ) : EReal) := fun s => by
    refine Eq.trans (congrArg (fun z => Ideal.div z (Ideal.sqrt (Ideal.ofBits .f32 1124073472#32))) (dot_scores h.score q _ b g i s)) ?_
    exact score_read (key := fun d => Host.gather (takeRows N S h.take) x1 (wrapped h t) (ix5 b g i s d)) hq
      fun d => (hrow x1 s d).trans (hk _ _ d)
  generalize hX : scores h q x1 t = X at hx
  have hm := max_scores h.reducesTo h.reduces h.scalar X (constant ⟨0, ![]⟩ .f32 0xFF800000#32) b g i
  have hw : ∀ s, weights h spread X (ix4 b g i s) = Ideal.exp (X (ix4 b g i s) - max (Ideal.ofBits .f32 4286578688#32)
      (Host.reduce FloatOps.maximumf X (constant ⟨0, ![]⟩ .f32 0xFF800000#32) h.reducesTo h.scalar (ix3 b g i))) := fun s =>
    congrArg (fun z => Ideal.exp (X (ix4 b g i s) - z)) (hspread _ s)
  have hs := sum_scores h.reducesTo h.reduces h.scalar (weights h spread X) (constant ⟨0, ![]⟩ .f32 0x00000000#32) b g i
  have h0 : (constant ⟨0, ![]⟩ .f32 0x00000000#32 : FVec Ideal ⟨0, ![]⟩ .f32) (Shape.Idx.first h.scalar) = 0 := by
    show Ideal.ofBits .f32 0x00000000#32 = 0
    simp [Ideal.ofBits, Ideal.ieee]
  rw [h0, zero_add] at hs
  simp only [hw] at hs
  unfold attend
  rw [hX, dot_mix]
  refine Eq.trans (Finset.sum_congr rfl fun s _ => ?_)
    (mean_read (x := fun s => X (ix4 b g i s)) (val := fun s => Host.gather (takeRows N S h.take) x2 (wrapped h t) (ix5 b g i s d)) hx hm
      fun s => (hrow x2 s d).trans (hv _ _ d))
  refine congrArg (· * _) ?_
  show Ideal.div (weights h spread X (ix4 b g i s)) (spread _ (ix4 b g i s)) = _
  rw [hspread, hs, hw]

end Tree.Ref

end
-- ==== Proof.RefSelTop.lean ====
/- The tables of the rows that the two upper levels select: each place holds the number of the row it names. -/
module

public import proofs.«01_k».proof.Proof.RefSel

@[expose] public section

noncomputable section

namespace Tree.Ref

open Idealize.ShloMosaic Cert.ReferenceIdeal Cert.ReferenceIdeal.Gen Cert.ReferenceIdeal.Read

/-- One, as the literal it was written as. -/
theorem one_bits : (1 : EReal) = Ideal.ofBits .f32 0x3F800000#32 := by
  rw [bits1]; simp

/-- The one place above a node of level 2 names the sink. -/
theorem anc2 (i : Fin 8) (s : Fin 1) : val_main_v280 (F := Ideal) (ix2 i s) = BitVec.ofNat 32 (ancSel2 s) := by
  have hi := i.isLt
  have hs := s.isLt
  pointwise [val_main_v280, val_main_v277, val_main_call7_v1, val_main_call7_v2, val_main_v276, val_main_v275, val_main_v279, val_main_call7_v0,
      val_main_v272, val_main_v273, val_main_v274, val_main_v278, val_main_v267, val_main_c_77, val_main_v270, val_main_v271,
      val_main_v265, val_main_cst_75, val_main_c_76, val_main_v266, val_main_v269, val_main_cst_74, val_main_v264, val_main_v268,
      val_main_c_73]
  rw [show ancSel2 s = if False then 584 + 0 else 0 from (if_neg id).symm]
  rw [one_bits]
  exact place_above (i := i.val) (s := 0) (base := 584) (c := False) bits1 bits8 (by decide) (by decide) (by omega) (by omega) (iff_of_false (by omega) id) rfl

/-- The number of a level-2 node's parent. -/
theorem parent2 (i : Fin 8) : val_main_v283 (F := Ideal) (ix2 i 0) = BitVec.ofNat 32 (i / 8) := by
  have hi := i.isLt
  pointwise [val_main_v283, val_main_call8_v11, val_main_call8_v13, val_main_call8_v2, val_main_call8_v6, val_main_call8_v10, val_main_call8_v12,
      val_main_v265, val_main_call8_v1, val_main_call8_v3, val_main_call8_v5, val_main_call8_v8, val_main_call8_v9, val_main_call8_c_0,
      val_main_v264, val_main_call8_v0, val_main_call8_v4, val_main_call8_v7, val_main_call8_c, val_main_c_78]
  exact floor8_small (by omega)

/-- The numbers of a level-2 node's siblings. -/
theorem rel2 (i : Fin 8) (s : Fin 8) : val_main_v290 (F := Ideal) (ix2 i s) = BitVec.ofNat 32 (i / 8 * 8 + s) := by
  have hi := i.isLt
  have hs := s.isLt
  pointwise [val_main_v290, val_main_v288, val_main_v289, val_main_v286, val_main_v287, val_main_c_80, val_main_v285, val_main_v282, val_main_v284,
      val_main_v281, val_main_c_79]
  rw [parent2]
  exact under_small (b := 7) (by omega) (by omega)

/-- A level-2 node's sibling places. -/
theorem sib2 (i : Fin 8) (s : Fin 8) : val_main_v301 (F := Ideal) (ix2 i s) = BitVec.ofNat 32 (sibSel 576 i s) := by
  have hi := i.isLt
  have hs := s.isLt
  pointwise [val_main_v301, val_main_v298, val_main_v300, val_main_call9_v1, val_main_v293, val_main_v297, val_main_v299, val_main_call9_v0,
      val_main_v291, val_main_v292, val_main_v296, val_main_c_83, val_main_c_84, val_main_cst_81, val_main_v294, val_main_v295,
      val_main_v265, val_main_cst_82, val_main_v264]
  rw [rel2]
  exact place_at bits8 bits8 (by decide) (by decide) (by omega) (by omega) (by omega) (fun _ => rfl)

/-- The numbers of a level-2 node's children. -/
theorem under2 (i : Fin 8) (s : Fin 8) : val_main_v308 (F := Ideal) (ix2 i s) = BitVec.ofNat 32 (i * 8 + s) := by
  have hi := i.isLt
  have hs := s.isLt
  pointwise [val_main_v308, val_main_v306, val_main_v307, val_main_v304, val_main_v305, val_main_c_86, val_main_v303, val_main_v282, val_main_v265,
      val_main_v302, val_main_v281, val_main_v264, val_main_c_85]
  exact under_small (b := 63) (by omega) (by omega)

/-- A level-2 node's child places. -/
theorem child2 (i : Fin 8) (s : Fin 8) : val_main_v319 (F := Ideal) (ix2 i s) = BitVec.ofNat 32 (childSel 512 i s) := by
  have hi := i.isLt
  have hs := s.isLt
  pointwise [val_main_v319, val_main_v316, val_main_v318, val_main_call10_v1, val_main_v311, val_main_v315, val_main_v317, val_main_call10_v0,
      val_main_v309, val_main_v310, val_main_v314, val_main_c_89, val_main_c_90, val_main_cst_87, val_main_v312, val_main_v313,
      val_main_v265, val_main_cst_88, val_main_v264]
  rw [under2]
  exact place_at bits64 bits8 (by decide) (by decide) (by omega) (by omega) (by omega) (fun h => by subst h; rfl)

/-- The root has no parent: the quotient is nought. -/
theorem parent3 : val_main_v421 (F := Ideal) (ix2 0 0) = BitVec.ofNat 32 0 := by
  pointwise [val_main_v421, val_main_call11_v11, val_main_call11_v13, val_main_call11_v2, val_main_call11_v6, val_main_call11_v10,
      val_main_call11_v12, val_main_v418, val_main_call11_v1, val_main_call11_v3, val_main_call11_v5, val_main_call11_v8,
      val_main_call11_v9, val_main_call11_c_0, val_main_v417, val_main_call11_v0, val_main_call11_v4, val_main_call11_v7,
      val_main_call11_c, val_main_c_117]
  exact floor8_small (n := 0) (by omega)

/-- Every sibling place of the root is the root's own. -/
theorem rel3 (s : Fin 8) : val_main_v427 (F := Ideal) (ix2 0 s) = BitVec.ofNat 32 0 := by
  pointwise [val_main_v427, val_main_v425, val_main_v426, val_main_v424, val_main_v420, val_main_c_119, val_main_v423, val_main_v419, val_main_v422,
      val_main_c_118]
  rw [parent3]
  revert s; decide +kernel

/-- The root's sibling places. -/
theorem sib3 (s : Fin 8) : val_main_v438 (F := Ideal) (ix2 0 s) = BitVec.ofNat 32 (sibSel3 s) := by
  have hs := s.isLt
  pointwise [val_main_v438, val_main_v435, val_main_v437, val_main_call12_v1, val_main_v430, val_main_v434, val_main_v436, val_main_call12_v0,
      val_main_v428, val_main_v429, val_main_v433, val_main_c_122, val_main_c_123, val_main_cst_120, val_main_v431, val_main_v432,
      val_main_v418, val_main_cst_121, val_main_v417]
  rw [rel3]
  rw [show sibSel3 s = if True then 584 + 0 else 0 from (if_pos trivial).symm]
  rw [one_bits]
  exact place_at (i := 0) (r := 0) (base := 584) (c := True) bits1 bits1 (by decide) (by decide) (by omega) (by omega) (iff_of_true (by omega) trivial) fun _ => rfl

/-- The numbers of the root's children. -/
theorem under3 (s : Fin 8) : val_main_v444 (F := Ideal) (ix2 0 s) = BitVec.ofNat 32 s := by
  have hs := s.isLt
  pointwise [val_main_v444, val_main_v442, val_main_v443, val_main_v441, val_main_v420, val_main_c_125, val_main_v440, val_main_v419, val_main_v418,
      val_main_v439, val_main_v417, val_main_c_124]
  exact (under_small (a := 0) (s := s.val) (b := 7) (by omega) (by omega)).trans (by rw [Nat.zero_mul, Nat.zero_add])

/-- The root's child places. -/
theorem child3 (s : Fin 8) : val_main_v455 (F := Ideal) (ix2 0 s) = BitVec.ofNat 32 (childSel 576 0 s) := by
  have hs := s.isLt
  pointwise [val_main_v455, val_main_v452, val_main_v454, val_main_call13_v1, val_main_v447, val_main_v451, val_main_v453, val_main_call13_v0,
      val_main_v445, val_main_v446, val_main_v450, val_main_c_128, val_main_c_129, val_main_cst_126, val_main_v448, val_main_v449,
      val_main_v418, val_main_cst_127, val_main_v417]
  rw [under3]
  rw [one_bits]
  exact place_at (i := 0) (r := s.val) (base := 576) bits8 bits1 (by decide) (by decide) (by omega) (by omega) (by omega) (fun h => by subst h; rfl)

end Tree.Ref

end
-- ==== Proof.RefCalls.lean ====
/- The reference's ten attentions, each at a place: the mean of the mathematics over the rows its table names. -/
module

public import proofs.«01_k».proof.Proof.RefAttend
public import proofs.«01_k».proof.Proof.RefSelTop

@[expose] public section

set_option maxRecDepth 16384

noncomputable section

namespace Tree.Ref

open Idealize.ShloMosaic Cert.ReferenceIdeal Cert.ReferenceIdeal.Gen Cert.ReferenceIdeal.Read
open scoped BigOperators

/-- The leaves' tables: 64 places above, 8 siblings. -/
theorem leafAnc : Shapes 512 64 := by constructor <;> decide +kernel
theorem leafSib : Shapes 512 8 := by constructor <;> decide +kernel
/-- Level 1's tables. -/
theorem mid : Shapes 64 8 := by constructor <;> decide +kernel
/-- Level 2's tables. -/
theorem topAnc : Shapes 8 1 := by constructor <;> decide +kernel
theorem top : Shapes 8 8 := by constructor <;> decide +kernel
/-- The root's tables. -/
theorem root : Shapes 1 8 := by constructor <;> decide +kernel

/-- A range of rows read: the row at its place from the range's first. -/
theorem slice_row {N base : ℕ} (h : (⟨4, ![4, 4, 585, 128]⟩ : Shape).Slices ![0, 0, base, 0] (rowsS N))
    (x : FVec Ideal ⟨4, ![4, 4, 585, 128]⟩ .f32) (b g : Fin 4) (i : Fin N) (d : Fin 128) (hi : base + i.val < 585) :
    extractStridedSlice (rowsS N) ![0, 0, base, 0] x h (ix4 b g i d) = x (ix4 b g ⟨base + i.val, hi⟩ d) := by
  refine extractStridedSlice_apply ![0, 0, base, 0] x h (ix4 b g i d) (ix4 b g ⟨base + i.val, hi⟩ d) fun a => ?_
  match a with
  | ⟨0, _⟩ => exact (Nat.zero_add _).symm
  | ⟨1, _⟩ => exact (Nat.zero_add _).symm
  | ⟨2, _⟩ => rfl
  | ⟨3, _⟩ => exact (Nat.zero_add _).symm

/-- The real numbers of one head's queries and keys. -/
structure Head (A0 A1 : FVec Ideal ⟨4, ![4, 4, 585, 128]⟩ .f32) (b g : Fin 4) (Q K : ℕ → Fin 128 → ℝ) : Prop where
  query : ∀ n (h : n < 585) d, A0 (ix4 b g ⟨n, h⟩ d) = ((Q n d : ℝ) : EReal)
  key : ∀ n (h : n < 585) d, A1 (ix4 b g ⟨n, h⟩ d) = ((K n d : ℝ) : EReal)

/-- An array holds `w` in one head. -/
def Holds (X : FVec Ideal ⟨4, ![4, 4, 585, 128]⟩ .f32) (b g : Fin 4) (w : ℕ → Fin 128 → EReal) : Prop :=
  ∀ n (h : n < 585) d, X (ix4 b g ⟨n, h⟩ d) = w n d

variable {A0 A1 A2 : FVec Ideal ⟨4, ![4, 4, 585, 128]⟩ .f32} {b g : Fin 4} {Q K : ℕ → Fin 128 → ℝ} {W : ℕ → Fin 128 → EReal}

/-- Two of a node's rows named by a table, and where the table's rows are: every place names a row of the array. -/
theorem ancSel0_lt (i : Fin 512) (s : Fin 64) : ancSel0 i s < 585 := by unfold ancSel0; split_ifs <;> omega
theorem ancSel1_lt (i : Fin 64) (s : Fin 8) : ancSel1 i s < 585 := by unfold ancSel1; split_ifs <;> omega
theorem sibSel_lt {base N : ℕ} (h : base + N ≤ 584) (h8 : N % 8 = 0) (i : Fin N) (s : Fin 8) : sibSel base i s < 585 := by
  unfold sibSel; split_ifs <;> omega
theorem childSel_lt {base N : ℕ} (h : base + N * 8 ≤ 584) (i : Fin N) (s : Fin 8) : childSel base i s < 585 := by
  unfold childSel; split_ifs <;> omega

/-- An attention of a range of rows that begins at `base`, over a table wider than one place: each row's mean over the rows its table names. -/
theorem call {N S base n : ℕ} [NeZero S] (hS : S ≠ 1) (h : Shapes N S) (h1 : (oneS N).BroadcastsInDim ⟨4, ![4, 4, N, 1]⟩ ![0, 1, 2])
    (h2 : (⟨4, ![4, 4, N, 1]⟩ : Shape).BroadcastsInDim (scoreS N S) ![0, 1, 2, 3])
    (hr : (⟨4, ![4, 4, 585, 128]⟩ : Shape).Slices ![0, 0, base, 0] (rowsS N)) {R : FVec Ideal (rowsS N) .f32}
    {X : FVec Ideal ⟨4, ![4, 4, 585, 128]⟩ .f32} {t : IVec ⟨2, ![N, S]⟩ 32} {sel : Fin S → ℕ}
    (hR : R = attend h (fun m => broadcastInDim (scoreS N S) ![0, 1, 2, 3] h2 (broadcastInDim ⟨4, ![4, 4, N, 1]⟩ ![0, 1, 2] h1 m))
      (extractStridedSlice (rowsS N) ![0, 0, base, 0] A0 hr) A1 X t)
    (H : Head A0 A1 b g Q K) (hX : Holds X b g W) {i : Fin N} (d : Fin 128) (hn : base + i.val = n) (hlt : n < 585)
    (hsel : ∀ s, sel s < 585) (ht : ∀ s, t (ix2 i s) = BitVec.ofNat 32 (sel s)) :
    R (ix4 b g i d) = mean Q K n sel W d := by
  subst hn
  rw [hR]
  exact attend_read h (fun m s => spread_wide hS h1 h2 m b g i s) (fun d => (slice_row hr A0 b g i d hlt).trans (H.query _ _ d)) H.key hX hsel ht

/-- A leaf's mean over the places above it. -/
theorem leaf_anc (H : Head A0 A1 b g Q K) (hV : Holds A2 b g W) (i : Fin 512) (d : Fin 128) :
    val_main_v69 (F := Ideal) A0 A1 A2 (ix4 b g i d) = mean Q K i (ancSel0 i) W d :=
  call (by decide) leafAnc bcast_S4x4x512_S4x4x512x1_0_1_2 bcast_S4x4x512x1_S4x4x512x64_0_1_2_3 slices_S4x4x585x128_S4x4x512x128_0_0_0_0
    (by rfl) H hV d (Nat.zero_add _) (by omega) (ancSel0_lt i) (anc0 i)

/-- A leaf's mean over its siblings. -/
theorem leaf_sib (H : Head A0 A1 b g Q K) (hV : Holds A2 b g W) (i : Fin 512) (d : Fin 128) :
    val_main_v100 (F := Ideal) A0 A1 A2 (ix4 b g i d) = mean Q K i (sibSel 0 i) W d :=
  call (by decide) leafSib bcast_S4x4x512_S4x4x512x1_0_1_2 bcast_S4x4x512x1_S4x4x512x8_0_1_2_3 slices_S4x4x585x128_S4x4x512x128_0_0_0_0
    (by rfl) H hV d (Nat.zero_add _) (by omega) (sibSel_lt (by decide) (by decide) i) (sib0 i)

/-- A level-1 node's mean over the places above it, of the values as the leaves left them. -/
theorem mid_anc (H : Head A0 A1 b g Q K) (hV : Holds (val_main_v107 (F := Ideal) A0 A1 A2) b g W) (i : Fin 64) (d : Fin 128) :
    val_main_v195 (F := Ideal) A0 A1 A2 (ix4 b g i d) = mean Q K (512 + i) (ancSel1 i) W d :=
  call (by decide) mid bcast_S4x4x64_S4x4x64x1_0_1_2 bcast_S4x4x64x1_S4x4x64x8_0_1_2_3 slices_S4x4x585x128_S4x4x64x128_0_0_512_0
    (by rfl) H hV d rfl (by omega) (ancSel1_lt i) (anc1 i)

/-- Its mean over its siblings. -/
theorem mid_sib (H : Head A0 A1 b g Q K) (hV : Holds (val_main_v107 (F := Ideal) A0 A1 A2) b g W) (i : Fin 64) (d : Fin 128) :
    val_main_v226 (F := Ideal) A0 A1 A2 (ix4 b g i d) = mean Q K (512 + i) (sibSel 512 i) W d :=
  call (by decide) mid bcast_S4x4x64_S4x4x64x1_0_1_2 bcast_S4x4x64x1_S4x4x64x8_0_1_2_3 slices_S4x4x585x128_S4x4x64x128_0_0_512_0
    (by rfl) H hV d rfl (by omega) (sibSel_lt (by decide) (by decide) i) (sib1 i)

/-- Its mean over its children. -/
theorem mid_child (H : Head A0 A1 b g Q K) (hV : Holds (val_main_v107 (F := Ideal) A0 A1 A2) b g W) (i : Fin 64) (d : Fin 128) :
    val_main_v257 (F := Ideal) A0 A1 A2 (ix4 b g i d) = mean Q K (512 + i) (childSel 0 i) W d :=
  call (by decide) mid bcast_S4x4x64_S4x4x64x1_0_1_2 bcast_S4x4x64x1_S4x4x64x8_0_1_2_3 slices_S4x4x585x128_S4x4x64x128_0_0_512_0
    (by rfl) H hV d rfl (by omega) (childSel_lt (by decide) i) (child1 i)

/-- A level-2 node's mean over the one place above it, of the values as level 1 left them. -/
theorem top_anc (H : Head A0 A1 b g Q K) (hV : Holds (val_main_v263 (F := Ideal) A0 A1 A2) b g W) (i : Fin 8) (d : Fin 128) :
    val_main_v348 (F := Ideal) A0 A1 A2 (ix4 b g i d) = mean Q K (576 + i) ancSel2 W d := by
  have e : val_main_v348 (F := Ideal) A0 A1 A2 = attend topAnc (fun m => broadcastInDim (scoreS 8 1) ![0, 1, 2] bcast_S4x4x8_S4x4x8x1_0_1_2 m)
      (extractStridedSlice (rowsS 8) ![0, 0, 576, 0] A0 slices_S4x4x585x128_S4x4x8x128_0_0_576_0) A1 (val_main_v263 (F := Ideal) A0 A1 A2)
      (val_main_v280 (F := Ideal)) := rfl
  rw [e]
  refine attend_read topAnc (fun m s => ?_) (fun d => (slice_row _ A0 b g i d (by omega)).trans (H.query _ _ d)) H.key hV
    (fun s => by revert s; decide) (anc2 i)
  obtain rfl : s = 0 := Subsingleton.elim _ _
  pointwise

/-- Its mean over its siblings. -/
theorem top_sib (H : Head A0 A1 b g Q K) (hV : Holds (val_main_v263 (F := Ideal) A0 A1 A2) b g W) (i : Fin 8) (d : Fin 128) :
    val_main_v379 (F := Ideal) A0 A1 A2 (ix4 b g i d) = mean Q K (576 + i) (sibSel 576 i) W d :=
  call (by decide) top bcast_S4x4x8_S4x4x8x1_0_1_2 bcast_S4x4x8x1_S4x4x8x8_0_1_2_3 slices_S4x4x585x128_S4x4x8x128_0_0_576_0
    (by rfl) H hV d rfl (by omega) (sibSel_lt (by decide) (by decide) i) (sib2 i)

/-- Its mean over its children. -/
theorem top_child (H : Head A0 A1 b g Q K) (hV : Holds (val_main_v263 (F := Ideal) A0 A1 A2) b g W) (i : Fin 8) (d : Fin 128) :
    val_main_v410 (F := Ideal) A0 A1 A2 (ix4 b g i d) = mean Q K (576 + i) (childSel 512 i) W d :=
  call (by decide) top bcast_S4x4x8_S4x4x8x1_0_1_2 bcast_S4x4x8x1_S4x4x8x8_0_1_2_3 slices_S4x4x585x128_S4x4x8x128_0_0_576_0
    (by rfl) H hV d rfl (by omega) (childSel_lt (by decide) i) (child2 i)

/-- The root's mean over its sibling places, of the values as level 2 left them. -/
theorem root_sib (H : Head A0 A1 b g Q K) (hV : Holds (val_main_v416 (F := Ideal) A0 A1 A2) b g W) (d : Fin 128) :
    val_main_v486 (F := Ideal) A0 A1 A2 (ix4 b g 0 d) = mean Q K 584 sibSel3 W d :=
  call (by decide) root bcast_S4x4x1_S4x4x1x1_0_1_2 bcast_S4x4x1x1_S4x4x1x8_0_1_2_3 slices_S4x4x585x128_S4x4x1x128_0_0_584_0
    (by rfl) H hV d rfl (by decide) (fun s => by revert s; decide) sib3

/-- Its mean over its children. -/
theorem root_child (H : Head A0 A1 b g Q K) (hV : Holds (val_main_v416 (F := Ideal) A0 A1 A2) b g W) (d : Fin 128) :
    val_main_v517 (F := Ideal) A0 A1 A2 (ix4 b g 0 d) = mean Q K 584 (childSel 576 0) W d :=
  call (by decide) root bcast_S4x4x1_S4x4x1x1_0_1_2 bcast_S4x4x1x1_S4x4x1x8_0_1_2_3 slices_S4x4x585x128_S4x4x1x128_0_0_584_0
    (by rfl) H hV d rfl (by decide) (childSel_lt (N := 1) (by decide) 0) child3

end Tree.Ref

end
-- ==== Proof.RefValue.lean ====
/- What the reference computes: level by level its values are those of the mathematics, and its result is the attention of its arguments. -/
module

public import proofs.«01_k».proof.Proof.RefCalls

@[expose] public section

set_option maxRecDepth 16384

noncomputable section

namespace Tree.Ref

open Idealize.ShloMosaic Cert.ReferenceIdeal Cert.ReferenceIdeal.Gen Cert.ReferenceIdeal.Read

variable {A0 A1 A2 : FVec Ideal S4x4x585x128 .f32} {b g : Fin 4} {Q K : ℕ → Fin 128 → ℝ} {V : ℕ → Fin 128 → EReal}

/-- The literals of the sums: nought and three. -/
theorem nought : Ideal.ofBits .f32 0x00000000#32 = 0 := by simp [Ideal.ofBits, Ideal.ieee]
theorem three : Ideal.ofBits .f32 0x40400000#32 = ((3 : ℝ) : EReal) := by
  simp [Ideal.ofBits, Ideal.ieee, -EReal.coe_mul]; norm_num

/-- An array whose rows from `base` are replaced: there the new rows, elsewhere the old. -/
theorem put_holds {N base : ℕ} (hb : base < 1024)
    (wf : ScatterDims.WF ⟨4, ![4, 4, 585, 128]⟩ ⟨1, ![1]⟩ ⟨4, ![4, 4, N, 128]⟩ [0, 1, 2, 3] [] [2] 0)
    {x : FVec Ideal S4x4x585x128 .f32} {u : (⟨4, ![4, 4, N, 128]⟩ : Shape).Idx → EReal}
    {idx : IVec ⟨1, ![1]⟩ 32} (h : idx (ix1 0) = BitVec.ofNat 32 base) {w w' : ℕ → Fin 128 → EReal} (hx : Holds x b g w)
    (hu : ∀ (i : Fin N) d, u (ix4 b g i d) = w' i.val d) :
    Holds (Host.scatter (putRows N wf) (fun _ b => b) x idx u) b g
      (fun n d => if base ≤ n ∧ n < base + N then w' (n - base) d else w n d) := by
  intro n hn d
  show _ = if base ≤ n ∧ n < base + N then w' (n - base) d else w n d
  by_cases hc : base ≤ n ∧ n < base + N
  · have e : base + (n - base) = n := by omega
    rw [if_pos hc, put_hit hb wf x u idx h b g ⟨n, hn⟩ d ⟨n - base, by omega⟩ e]
    exact hu _ _
  · rw [if_neg hc, put_miss hb wf x u idx h b g ⟨n, hn⟩ d (by show n < base ∨ base + N ≤ n; omega)]
    exact hx n hn d

/-- The leaves' new values. -/
theorem leaf_new (H : Head A0 A1 b g Q K) (hV : Holds A2 b g V) (i : Fin 512) (d : Fin 128) :
    val_main_v105 (F := Ideal) A0 A1 A2 (ix4 b g i d) = new0 Q K V i d := by
  show Ideal.div (val_main_v69 (F := Ideal) A0 A1 A2 (ix4 b g i d) + val_main_v100 (F := Ideal) A0 A1 A2 (ix4 b g i d)
    + Ideal.ofBits .f32 0x00000000#32) (Ideal.ofBits .f32 0x40400000#32) = _
  rw [leaf_anc H hV, leaf_sib H hV, nought, three, add_zero, new0]

/-- The values once the leaves are replaced. -/
theorem after_leaves (H : Head A0 A1 b g Q K) (hV : Holds A2 b g V) :
    Holds (val_main_v107 (F := Ideal) A0 A1 A2) b g (vals1 Q K V) := by
  intro n hn d
  have := put_holds (N := 512) (base := 0) (by decide) Facts₀.scatter_S4x4x585x128_S1_S4x4x512x128_0123_n_2_0_wf
    (idx := val_main_v106 (F := Ideal)) rfl hV (leaf_new H hV) n hn d
  refine this.trans ?_
  simp only [vals1, Nat.zero_le, true_and, Nat.zero_add, Nat.sub_zero]

/-- Level 1's new values. -/
theorem mid_new (H : Head A0 A1 b g Q K) (hV : Holds A2 b g V) (i : Fin 64) (d : Fin 128) :
    val_main_v261 (F := Ideal) A0 A1 A2 (ix4 b g i d) = new1 Q K V i d := by
  show Ideal.div (val_main_v195 (F := Ideal) A0 A1 A2 (ix4 b g i d) + val_main_v226 (F := Ideal) A0 A1 A2 (ix4 b g i d)
    + val_main_v257 (F := Ideal) A0 A1 A2 (ix4 b g i d)) (Ideal.ofBits .f32 0x40400000#32) = _
  have hW := after_leaves H hV
  rw [mid_anc H hW, mid_sib H hW, mid_child H hW, three, new1]

/-- The values once level 1 is replaced. -/
theorem after_mid (H : Head A0 A1 b g Q K) (hV : Holds A2 b g V) :
    Holds (val_main_v263 (F := Ideal) A0 A1 A2) b g (vals2 Q K V) :=
  fun n hn d => put_holds (N := 64) (base := 512) (by decide) Facts₀.scatter_S4x4x585x128_S1_S4x4x64x128_0123_n_2_0_wf
    (idx := val_main_v262 (F := Ideal)) rfl (after_leaves H hV) (mid_new H hV) n hn d

/-- Level 2's new values. -/
theorem top_new (H : Head A0 A1 b g Q K) (hV : Holds A2 b g V) (i : Fin 8) (d : Fin 128) :
    val_main_v414 (F := Ideal) A0 A1 A2 (ix4 b g i d) = new2 Q K V i d := by
  show Ideal.div (val_main_v348 (F := Ideal) A0 A1 A2 (ix4 b g i d) + val_main_v379 (F := Ideal) A0 A1 A2 (ix4 b g i d)
    + val_main_v410 (F := Ideal) A0 A1 A2 (ix4 b g i d)) (Ideal.ofBits .f32 0x40400000#32) = _
  have hW := after_mid H hV
  rw [top_anc H hW, top_sib H hW, top_child H hW, three, new2]

/-- The values once level 2 is replaced. -/
theorem after_top (H : Head A0 A1 b g Q K) (hV : Holds A2 b g V) :
    Holds (val_main_v416 (F := Ideal) A0 A1 A2) b g (vals3 Q K V) :=
  fun n hn d => put_holds (N := 8) (base := 576) (by decide) Facts₀.scatter_S4x4x585x128_S1_S4x4x8x128_0123_n_2_0_wf
    (idx := val_main_v415 (F := Ideal)) rfl (after_mid H hV) (top_new H hV) n hn d

/-- The root's new value. -/
theorem root_new (H : Head A0 A1 b g Q K) (hV : Holds A2 b g V) (i : Fin 1) (d : Fin 128) :
    val_main_v522 (F := Ideal) A0 A1 A2 (ix4 b g i d) = new3 Q K V d := by
  obtain rfl : i = 0 := Subsingleton.elim _ _
  show Ideal.div (Ideal.ofBits .f32 0x00000000#32 + val_main_v486 (F := Ideal) A0 A1 A2 (ix4 b g 0 d)
    + val_main_v517 (F := Ideal) A0 A1 A2 (ix4 b g 0 d)) (Ideal.ofBits .f32 0x40400000#32) = _
  have hW := after_top H hV
  rw [root_sib H hW, root_child H hW, nought, three, zero_add, new3]

/-- The values at the end. -/
theorem after_root (H : Head A0 A1 b g Q K) (hV : Holds A2 b g V) :
    Holds (val_main_v524 (F := Ideal) A0 A1 A2) b g (vals4 Q K V) := by
  intro n hn d
  have := put_holds (N := 1) (base := 584) (by decide) Facts₀.scatter_S4x4x585x128_S1_S4x4x1x128_0123_n_2_0_wf
    (idx := val_main_v523 (F := Ideal)) rfl (after_top H hV) (w' := fun _ => new3 Q K V) (root_new H hV) n hn d
  refine this.trans ?_
  have e : (584 ≤ n ∧ n < 584 + 1) ↔ n = 584 := by omega
  simp only [vals4, e]

/-- The reference's result, of finite queries and keys, is the attention of its arguments. -/
theorem value (h0 : ∀ y, A0 y ≠ (⊤ : EReal) ∧ A0 y ≠ (⊥ : EReal)) (h1 : ∀ y, A1 y ≠ (⊤ : EReal) ∧ A1 y ≠ (⊥ : EReal)) :
    val_main_v524 (F := Ideal) A0 A1 A2 = attention A0 A1 A2 := by
  refine attention_ext fun b g n d => ?_
  have H : Head A0 A1 b g (fun n d => (rowsOf (fun n d => A0 (ix4 b g n d)) n d).toReal)
      (fun n d => (rowsOf (fun n d => A1 (ix4 b g n d)) n d).toReal) :=
    ⟨fun n h d => rowsOf_real (A := fun n d => A0 (ix4 b g n d)) (fun _ _ => h0 _) n h d,
      fun n h d => rowsOf_real (A := fun n d => A1 (ix4 b g n d)) (fun _ _ => h1 _) n h d⟩
  exact after_root H (V := rowsOf fun n d => A2 (ix4 b g n d))
    (fun n h d => rowsOf_apply (fun n d => A2 (ix4 b g n d)) n h d) n.val n.isLt d

end Tree.Ref

end
-- ==== Proof.RefRun.lean ====
/- The reference's program runs: it ends with the attention of its arguments, which it leaves as they were. -/
module

public import proofs.«01_k».proof.Proof.RefValue
public import proofs.«01_k».proof.Proof.Gen.ReferenceIdeal.Run

@[expose] public section

noncomputable section

namespace Tree.Ref

open Idealize.ShloMosaic Idealize.ShloMosaic.StableHlo Idealize.ShloMosaic.TcCoe Idealize.SL.Sem
open Cert.ReferenceIdeal Cert.ReferenceIdeal.Gen

variable (m : (ℓ : Loc nD τ sig) → Buf (Elt Ideal) ℓ) (ρ : Dev nD → PrngReg)

/-- From finite queries and keys the reference's program ends with the attention of its arguments, which it leaves as they were. -/
theorem run (h0 : ∀ (c : Dev nD) y, (m ((c : Thread nD τ).loc main_arg0) : FVec Ideal S4x4x585x128 .f32) y ≠ (⊤ : EReal)
      ∧ (m ((c : Thread nD τ).loc main_arg0) : FVec Ideal S4x4x585x128 .f32) y ≠ (⊥ : EReal))
    (h1 : ∀ (c : Dev nD) y, (m ((c : Thread nD τ).loc main_arg1) : FVec Ideal S4x4x585x128 .f32) y ≠ (⊤ : EReal)
      ∧ (m ((c : Thread nD τ).loc main_arg1) : FVec Ideal S4x4x585x128 .f32) y ≠ (⊥ : EReal)) :
    θ_run defs (onTc (τ := τ) (main (F := Ideal))) ⟨m, fun _ => 0, ρ⟩ fun r => ∀ c : Dev nD,
      r.2.mem ((c : Thread nD τ).loc main_v524) = attention (m ((c : Thread nD τ).loc main_arg0))
          (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨?_, (h c).2⟩) (Cert.ReferenceIdeal.Value.run (F := Ideal) m ρ)
  refine (h c).1.trans ((Cert.ReferenceIdeal.Read.val_main_v524_eq (F := Ideal) (launchContents m c)).trans ?_)
  exact value (h0 c) (h1 c)

end Tree.Ref

end
-- ==== Proof.Equation.lean ====
/- The equation: from finite queries and keys the kernel and the reference end with one array, the attention of their arguments. -/
module

public import proofs.«01_k».proof.Defs
public import proofs.«01_k».proof.Proof.Gen.Pre_finite_queries_and_keys
public import proofs.«01_k».proof.Proof.KernelRun
public import proofs.«01_k».proof.Proof.RefRun

@[expose] public section

noncomputable section

namespace Tree

open Idealize.ShloMosaic Idealize.SL.Sem

/-- A number whose size is less than infinity is neither infinity. -/
theorem finite_of_lt {x : EReal} (h : max x (-x) < ⊤) : x ≠ ⊤ ∧ x ≠ ⊥ := by
  constructor <;> rintro rfl <;> simp at h

/-- What the precondition says of the queries and of the keys. -/
theorem finite_of_pre {A0 A1 A2 : FVec Ideal Cert.Pre_finite_queries_and_keys.S4x4x585x128 .f32}
    (h : Cert.Pre_finite_queries_and_keys.fn (F := Ideal) A0 A1 A2 = fun _ => 1#1) :
    (∀ y, A0 y ≠ (⊤ : EReal) ∧ A0 y ≠ (⊥ : EReal)) ∧ ∀ y, A1 y ≠ (⊤ : EReal) ∧ A1 y ≠ (⊥ : EReal) := by
  have inf : Ideal.ofBits .f32 0x7F800000#32 = ⊤ := by simp [Ideal.ofBits, Ideal.ieee]
  have both : ∀ y, max (A0 y : EReal) (-A0 y) < ⊤ ∧ max (A1 y : EReal) (-A1 y) < ⊤ := by
    intro y
    have e := congrFun h y
    have split : ∀ p q : Bool, BitVec.ofBool p &&& BitVec.ofBool q = 1#1 → p = true ∧ q = true := by decide
    have e' : BitVec.ofBool (decide (max (A0 y : EReal) (-A0 y) < Ideal.ofBits .f32 0x7F800000#32))
      &&& BitVec.ofBool (decide (max (A1 y : EReal) (-A1 y) < Ideal.ofBits .f32 0x7F800000#32)) = 1#1 := e
    obtain ⟨p, q⟩ := split _ _ e'
    rw [inf] at p q
    exact ⟨of_decide_eq_true p, of_decide_eq_true q⟩
  exact ⟨fun y => finite_of_lt (both y).1, fun y => finite_of_lt (both y).2⟩

/-- The kernel computes what the reference computes. -/
theorem equation : Cert.algebraic_KernelIdeal_ReferenceIdeal_pre_finite_queries_and_keys := by
  intro m g m' g' hPre hArgs
  have hf := fun c => finite_of_pre (hPre c)
  refine ⟨fun c => attention (m (c.tc.loc Cert.KernelIdeal.main_arg0)) (m (c.tc.loc Cert.KernelIdeal.main_arg1))
    (m (c.tc.loc Cert.KernelIdeal.main_arg2)), Tree.Kernel.run m g (fun c => (hf c).1) (fun c => (hf c).2), ?_⟩
  refine (θ_run _ _ _).mono (fun r h c => ⟨(h c).1.trans ?_, (h c).2⟩) (Tree.Ref.run m' g'
    (fun c => by rw [(hArgs c).1]; exact (hf c).1) (fun c => by rw [(hArgs c).2.1]; exact (hf c).2))
  rw [(hArgs c).1, (hArgs c).2.1, (hArgs c).2.2]

end Tree

end
-- ==== Proof.lean ====
/- The certificate: the programs' frames and the constants (Proof/Frames.lean), and the equation of the kernel with the
   reference (Proof/Equation.lean). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite_queries_and_keys
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_finite_queries_and_keys.Gen.facts,
    frameKernel, fun m ρ _ => frameKernelIdeal m ρ, fun m ρ _ => frameKernelIdeal m ρ,
    fun m ρ _ => frameReferenceIdeal m ρ, fun m ρ _ => frameReferenceIdeal m ρ, constants, Tree.equation⟩

end Cert.Proof

end
